-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 1024]⟩ ⟨2, ![2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x16 : Shape := ⟨2, ![512, 16]⟩
abbrev S2048x1 : Shape := ⟨2, ![2048, 1]⟩
abbrev S4x512x1024 : Shape := ⟨3, ![4, 512, 1024]⟩
abbrev S512x1024 : Shape := ⟨2, ![512, 1024]⟩
abbrev S2048x4 : Shape := ⟨2, ![2048, 4]⟩
abbrev S3x512x1024 : Shape := ⟨3, ![3, 512, 1024]⟩
abbrev S3 : Shape := ⟨1, ![3]⟩
abbrev S_ : Shape := ⟨0, ![]⟩
abbrev S1x4 : Shape := ⟨2, ![1, 4]⟩
abbrev S2047x4 : Shape := ⟨2, ![2047, 4]⟩
abbrev S2x4 : Shape := ⟨2, ![2, 4]⟩
abbrev S2046x4 : Shape := ⟨2, ![2046, 4]⟩
abbrev S4x4 : Shape := ⟨2, ![4, 4]⟩
abbrev S2044x4 : Shape := ⟨2, ![2044, 4]⟩
abbrev S8x4 : Shape := ⟨2, ![8, 4]⟩
abbrev S2040x4 : Shape := ⟨2, ![2040, 4]⟩
abbrev S16x4 : Shape := ⟨2, ![16, 4]⟩
abbrev S2032x4 : Shape := ⟨2, ![2032, 4]⟩
abbrev S32x4 : Shape := ⟨2, ![32, 4]⟩
abbrev S2016x4 : Shape := ⟨2, ![2016, 4]⟩
abbrev S64x4 : Shape := ⟨2, ![64, 4]⟩
abbrev S1984x4 : Shape := ⟨2, ![1984, 4]⟩
abbrev S128x4 : Shape := ⟨2, ![128, 4]⟩
abbrev S1920x4 : Shape := ⟨2, ![1920, 4]⟩
abbrev S256x4 : Shape := ⟨2, ![256, 4]⟩
abbrev S1792x4 : Shape := ⟨2, ![1792, 4]⟩
abbrev S512x4 : Shape := ⟨2, ![512, 4]⟩
abbrev S1536x4 : Shape := ⟨2, ![1536, 4]⟩
abbrev S1024x4 : Shape := ⟨2, ![1024, 4]⟩
abbrev S512x512 : Shape := ⟨2, ![512, 512]⟩
abbrev S512x1 : Shape := ⟨2, ![512, 1]⟩
abbrev S512 : Shape := ⟨1, ![512]⟩
abbrev S1x512x1024 : Shape := ⟨3, ![1, 512, 1024]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S512x16, .f32⟩
  | .hbm, ⟨2, _⟩ => ⟨S2048x1, .i32⟩
  | .hbm, ⟨3, _⟩ => ⟨S4x512x1024, .f32⟩
  | .hbm, ⟨4, _⟩ => ⟨S512x1024, .f32⟩
  | .local _ .vmem, ⟨0, _⟩ => ⟨S2048x512, .f32⟩
  | .local _ .vmem, ⟨1, _⟩ => ⟨S2048x1, .i32⟩
  | .local _ .vmem, ⟨2, _⟩ => ⟨S4x512x1024, .f32⟩
  | .local _ .vmem, ⟨3, _⟩ => ⟨S512x1024, .f32⟩
  | .local _ .vmem, ⟨4, _⟩ => ⟨S2048x4, .f32⟩
  | .local _ .vmem, ⟨5, _⟩ => ⟨S3x512x1024, .f32⟩
  | .local _ .vmem, ⟨6, _⟩ => ⟨S3x512x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c2_i32_43 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v106 : BitVec 32 := Scalar.addi v2 c2_i32_43
  let c4_i32_44 : BitVec 32 := 4#32
  let c0_i32_45 : BitVec 32 := 0#32
  let v107 : BitVec 1 := Scalar.cmpi .eq c4_i32_44 c0_i32_45
  let c1_i32_46 : BitVec 32 := 1#32
  let v108 : BitVec 32 := Scalar.select v107 c1_i32_46 c4_i32_44
  let v109 : BitVec 32 := Scalar.remsi v106 v108
  let c0_i32_48 : BitVec 32 := 0#32
  let v111 : BitVec 1 := Scalar.cmpi .slt v109 c0_i32_48
  let c0_i32_49 : BitVec 32 := 0#32
  let v112 : BitVec 1 := Scalar.cmpi .slt v108 c0_i32_49
  let v113 : BitVec 1 := Scalar.xori v111 v112
  let c0_i32_47 : BitVec 32 := 0#32
  let v110 : BitVec 1 := Scalar.cmpi .ne v109 c0_i32_47
  let v114 : BitVec 1 := Scalar.andi v113 v110
  let v115 : BitVec 32 := Scalar.addi v109 v108
  let v116 : BitVec 32 := Scalar.select v114 v115 v109
  let c512_i32 : BitVec 32 := 512#32
  let v117 : BitVec 32 := Scalar.muli v116 c512_i32
  let v118 : Index := Scalar.indexCast v117
  let c0_50 : Index := 0#32
  ![v118.toNat, 0]
def k0_off2 (d0 : Dev nD) (c2_i32_43 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v106 : BitVec 32 := Scalar.addi v2 c2_i32_43
  let c4_i32_44 : BitVec 32 := 4#32
  let c0_i32_45 : BitVec 32 := 0#32
  let v107 : BitVec 1 := Scalar.cmpi .eq c4_i32_44 c0_i32_45
  let c1_i32_46 : BitVec 32 := 1#32
  let v108 : BitVec 32 := Scalar.select v107 c1_i32_46 c4_i32_44
  let v109 : BitVec 32 := Scalar.remsi v106 v108
  let c0_i32_48 : BitVec 32 := 0#32
  let v111 : BitVec 1 := Scalar.cmpi .slt v109 c0_i32_48
  let c0_i32_49 : BitVec 32 := 0#32
  let v112 : BitVec 1 := Scalar.cmpi .slt v108 c0_i32_49
  let v113 : BitVec 1 := Scalar.xori v111 v112
  let c0_i32_47 : BitVec 32 := 0#32
  let v110 : BitVec 1 := Scalar.cmpi .ne v109 c0_i32_47
  let v114 : BitVec 1 := Scalar.andi v113 v110
  let v115 : BitVec 32 := Scalar.addi v109 v108
  let v116 : BitVec 32 := Scalar.select v114 v115 v109
  let c512_i32 : BitVec 32 := 512#32
  let v117 : BitVec 32 := Scalar.muli v116 c512_i32
  let v121 : Index := Scalar.indexCast v117
  let c0_51 : Index := 0#32
  ![v121.toNat, 0]
def k0_dev4 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_69 : BitVec 32 := 2#32
  let v163 : BitVec 32 := Scalar.addi v2 c2_i32_69
  let c4_i32_70 : BitVec 32 := 4#32
  let c0_i32_71 : BitVec 32 := 0#32
  let v164 : BitVec 1 := Scalar.cmpi .eq c4_i32_70 c0_i32_71
  let c1_i32_72 : BitVec 32 := 1#32
  let v165 : BitVec 32 := Scalar.select v164 c1_i32_72 c4_i32_70
  let v166 : BitVec 32 := Scalar.remsi v163 v165
  let c0_i32_74 : BitVec 32 := 0#32
  let v168 : BitVec 1 := Scalar.cmpi .slt v166 c0_i32_74
  let c0_i32_75 : BitVec 32 := 0#32
  let v169 : BitVec 1 := Scalar.cmpi .slt v165 c0_i32_75
  let v170 : BitVec 1 := Scalar.xori v168 v169
  let c0_i32_73 : BitVec 32 := 0#32
  let v167 : BitVec 1 := Scalar.cmpi .ne v166 c0_i32_73
  let v171 : BitVec 1 := Scalar.andi v170 v167
  let v172 : BitVec 32 := Scalar.addi v166 v165
  let v173 : BitVec 32 := Scalar.select v171 v172 v166
  let c1_i32_80 : BitVec 32 := 1#32
  let v174 : BitVec 32 := Scalar.muli v173 c1_i32_80
  let v175 : BitVec 32 := Scalar.addi c0_i32_81 v174
  v175.toNat
def k0_dev5 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_116 : BitVec 32 := 1#32
  let v241 : BitVec 32 := Scalar.addi v2 c1_i32_116
  let c4_i32_117 : BitVec 32 := 4#32
  let c0_i32_118 : BitVec 32 := 0#32
  let v242 : BitVec 1 := Scalar.cmpi .eq c4_i32_117 c0_i32_118
  let c1_i32_119 : BitVec 32 := 1#32
  let v243 : BitVec 32 := Scalar.select v242 c1_i32_119 c4_i32_117
  let v244 : BitVec 32 := Scalar.remsi v241 v243
  let c0_i32_121 : BitVec 32 := 0#32
  let v246 : BitVec 1 := Scalar.cmpi .slt v244 c0_i32_121
  let c0_i32_122 : BitVec 32 := 0#32
  let v247 : BitVec 1 := Scalar.cmpi .slt v243 c0_i32_122
  let v248 : BitVec 1 := Scalar.xori v246 v247
  let c0_i32_120 : BitVec 32 := 0#32
  let v245 : BitVec 1 := Scalar.cmpi .ne v244 c0_i32_120
  let v249 : BitVec 1 := Scalar.andi v248 v245
  let v250 : BitVec 32 := Scalar.addi v244 v243
  let v251 : BitVec 32 := Scalar.select v249 v250 v244
  let c1_i32_127 : BitVec 32 := 1#32
  let v252 : BitVec 32 := Scalar.muli v251 c1_i32_127
  let v253 : BitVec 32 := Scalar.addi c0_i32_128 v252
  v253.toNat
def k0_dev6 (d0 : Dev nD) : Nat :=
  let c0_i32_175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_163 : BitVec 32 := 3#32
  let v319 : BitVec 32 := Scalar.addi v2 c3_i32_163
  let c4_i32_164 : BitVec 32 := 4#32
  let c0_i32_165 : BitVec 32 := 0#32
  let v320 : BitVec 1 := Scalar.cmpi .eq c4_i32_164 c0_i32_165
  let c1_i32_166 : BitVec 32 := 1#32
  let v321 : BitVec 32 := Scalar.select v320 c1_i32_166 c4_i32_164
  let v322 : BitVec 32 := Scalar.remsi v319 v321
  let c0_i32_168 : BitVec 32 := 0#32
  let v324 : BitVec 1 := Scalar.cmpi .slt v322 c0_i32_168
  let c0_i32_169 : BitVec 32 := 0#32
  let v325 : BitVec 1 := Scalar.cmpi .slt v321 c0_i32_169
  let v326 : BitVec 1 := Scalar.xori v324 v325
  let c0_i32_167 : BitVec 32 := 0#32
  let v323 : BitVec 1 := Scalar.cmpi .ne v322 c0_i32_167
  let v327 : BitVec 1 := Scalar.andi v326 v323
  let v328 : BitVec 32 := Scalar.addi v322 v321
  let v329 : BitVec 32 := Scalar.select v327 v328 v322
  let c1_i32_174 : BitVec 32 := 1#32
  let v330 : BitVec 32 := Scalar.muli v329 c1_i32_174
  let v331 : BitVec 32 := Scalar.addi c0_i32_175 v330
  v331.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_180 : BitVec 32 := 512#32
  let v340 : BitVec 32 := Scalar.muli v2 c512_i32_180
  let v341 : Index := Scalar.indexCast v340
  let c0_181 : Index := 0#32
  ![v341.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_180 : BitVec 32 := 512#32
  let v340 : BitVec 32 := Scalar.muli v2 c512_i32_180
  let v344 : Index := Scalar.indexCast v340
  let c0_182 : Index := 0#32
  ![v344.toNat, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x512 : Shape := ⟨2, ![2048, 512]⟩
abbrev S512x16 : Shape := ⟨2, ![512, 16]⟩
abbrev S2048x1 : Shape := ⟨2, ![2048, 1]⟩
abbrev S16x512x1024 : Shape := ⟨3, ![16, 512, 1024]⟩
abbrev S2048 : Shape := ⟨1, ![2048]⟩
abbrev S1x2048 : Shape := ⟨2, ![1, 2048]⟩
abbrev S2048x2048 : Shape := ⟨2, ![2048, 2048]⟩
abbrev S_ : Shape := ⟨0, ![]⟩
abbrev S16 : Shape := ⟨1, ![16]⟩
abbrev S1x16 : Shape := ⟨2, ![1, 16]⟩
abbrev S2048x16 : Shape := ⟨2, ![2048, 16]⟩
abbrev S2048x16x1024 : Shape := ⟨3, ![2048, 16, 1024]⟩
abbrev S2048x16x1 : Shape := ⟨3, ![2048, 16, 1]⟩
abbrev S2048x1024 : Shape := ⟨2, ![2048, 1024]⟩

abbrev nBuf : Space → Nat
  | .hbm => 38
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x16, .f32⟩
  | .hbm, ⟨2, _⟩ => ⟨S2048x1, .i32⟩
  | .hbm, ⟨3, _⟩ => ⟨S16x512x1024, .f32⟩
  | .hbm, ⟨4, _⟩ => ⟨S2048, .i32⟩
  | .hbm, ⟨5, _⟩ => ⟨S1x2048, .i32⟩
  | .hbm, ⟨6, _⟩ => ⟨S2048x2048, .i32⟩
  | .hbm, ⟨7, _⟩ => ⟨S2048x2048, .i32⟩
  | .hbm, ⟨8, _⟩ => ⟨S2048x2048, .i1⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S2048x2048, .i1⟩
  | .hbm, ⟨15, _⟩ => ⟨S2048x2048, .i32⟩
  | .hbm, ⟨16, _⟩ => ⟨S_, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048x1, .i1⟩
  | .hbm, ⟨22, _⟩ => ⟨S16, .i32⟩
  | .hbm, ⟨23, _⟩ => ⟨S1x16, .i32⟩
  | .hbm, ⟨24, _⟩ => ⟨S2048x16, .i32⟩
  | .hbm, ⟨25, _⟩ => ⟨S2048x16, .i32⟩
  | .hbm, ⟨26, _⟩ => ⟨S2048x16, .i1⟩
  | .hbm, ⟨27, _⟩ => ⟨S2048x16, .i1⟩
  | .hbm, ⟨28, _⟩ => ⟨S2048x16, .i1⟩
  | .hbm, ⟨29, _⟩ => ⟨S2048x16x1024, .f32⟩
  | .hbm, ⟨30, _⟩ => ⟨S2048x16x1, .i1⟩
  | .hbm, ⟨31, _⟩ => ⟨S_, .f32⟩
  | .hbm, ⟨32, _⟩ => ⟨S_, .f32⟩
  | .hbm, ⟨33, _⟩ => ⟨S2048x16x1024, .i1⟩
  | .hbm, ⟨34, _⟩ => ⟨S2048x16x1024, .f32⟩
  | .hbm, ⟨35, _⟩ => ⟨S2048x16x1024, .f32⟩
  | .hbm, ⟨36, _⟩ => ⟨S_, .f32⟩
  | .hbm, ⟨37, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Proof.Cells.lean ====
/-
# Devices, cells, slots and contents

Four devices. Every device works out, for each of the four 512-token chunks, the part its own four experts add to
that chunk; it keeps the part of its own chunk and sends each of the other three to the chunk's device. Send `j`
(`j = 0, 1, 2`) goes `off j = 2, 1, 3` devices further, out of slot `j` of the sender's send buffer and into slot `j` of
the receiver's landing buffer, on the `j`-th send and receive semaphore.

This file names the devices, the semaphores, the slots of the two buffers, and what each buffer holds when.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Exec.Geometry
public import Idealize.ShloMosaic.Lib.Ring.FamCut
public import Idealize.ShloMosaic.Lib.Rounds
public import Idealize.ShloMosaic.Lib.ViewIndex
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter at zero, any generator registers. -/
def s₀ : MemSt nD τ sig (Elt F) := ⟨m, fun _ => 0, ρ⟩

/-! ## Who sends to whom -/

/-- How many devices further send `j` goes. -/
def off : Fin 3 → ℕ := ![2, 1, 3]
set_option backward.proofsInPublic true in
/-- The device send `j` of device `c` goes to. -/
def dst (j : Fin 3) (c : Dev nD) : Dev nD := ⟨(c.val + off j) % 4, Nat.mod_lt _ (by decide)⟩
set_option backward.proofsInPublic true in
/-- The device whose send `j` comes to device `c`. -/
def src (j : Fin 3) (c : Dev nD) : Dev nD := ⟨(c.val + (4 - off j)) % 4, Nat.mod_lt _ (by decide)⟩

theorem dst_src (j : Fin 3) (c : Dev nD) : dst j (src j c) = c := by revert j c; decide
theorem src_dst (j : Fin 3) (c : Dev nD) : src j (dst j c) = c := by revert j c; decide

/-- Sending `j` permutes the devices. -/
def around (j : Fin 3) : Dev nD ≃ Dev nD := ⟨dst j, src j, src_dst j, dst_src j⟩

/-- The three signals go to the devices one, two and three further: the senders of sends 2, 0 and 1. -/
theorem dev1_eq (c : Dev nD) : (⟨k0_dev1 c, k0_dev1_lt c⟩ : Dev nD) = src 2 c := by revert c; decide +kernel
theorem dev2_eq (c : Dev nD) : (⟨k0_dev2 c, k0_dev2_lt c⟩ : Dev nD) = src 0 c := by revert c; decide +kernel
theorem dev3_eq (c : Dev nD) : (⟨k0_dev3 c, k0_dev3_lt c⟩ : Dev nD) = src 1 c := by revert c; decide +kernel
/-- The three transfers go where sends 0, 1, 2 go. -/
theorem dev4_eq (c : Dev nD) : (⟨k0_dev4 c, k0_dev4_lt c⟩ : Dev nD) = dst 0 c := by revert c; decide +kernel
theorem dev5_eq (c : Dev nD) : (⟨k0_dev5 c, k0_dev5_lt c⟩ : Dev nD) = dst 1 c := by revert c; decide +kernel
theorem dev6_eq (c : Dev nD) : (⟨k0_dev6 c, k0_dev6_lt c⟩ : Dev nD) = dst 2 c := by revert c; decide +kernel

/-- Where chunk `e` starts: at token `512 e`. -/
abbrev rowsAt (e : Dev nD) : Fin 2 → ℕ := ![512 * e.val, 0]

theorem off1_0 (c : Dev nD) : k0_off1 c 2#32 = rowsAt (dst 0 c) := by revert c; decide +kernel
theorem off1_1 (c : Dev nD) : k0_off1 c 1#32 = rowsAt (dst 1 c) := by revert c; decide +kernel
theorem off1_2 (c : Dev nD) : k0_off1 c 3#32 = rowsAt (dst 2 c) := by revert c; decide +kernel
theorem off2_0 (c : Dev nD) : k0_off2 c 2#32 = rowsAt (dst 0 c) := by revert c; decide +kernel
theorem off2_1 (c : Dev nD) : k0_off2 c 1#32 = rowsAt (dst 1 c) := by revert c; decide +kernel
theorem off2_2 (c : Dev nD) : k0_off2 c 3#32 = rowsAt (dst 2 c) := by revert c; decide +kernel

theorem rows_x_inb (e : Dev nD) : ∀ a, rowsAt e a + S512x512.size a ≤ S2048x512.size a := by revert e; decide
theorem rows_k_inb (e : Dev nD) : ∀ a, rowsAt e a + S512x4.size a ≤ S2048x4.size a := by revert e; decide

/-! ## The buffers and their slots -/

abbrev xM : Memref sig .tc .vmem S2048x512 .f32 := Memref.whole cc0_stg0_0
abbrev iM : Memref sig .tc .vmem S2048x1 .i32 := Memref.whole cc0_stg1_0
abbrev wM : Memref sig .tc .vmem S4x512x1024 .f32 := Memref.whole cc0_stg2_0
abbrev oM : Memref sig .tc .vmem S512x1024 .f32 := Memref.whole cc0_stg3_0
abbrev kM : Memref sig .tc .vmem S2048x4 .f32 := Memref.whole cc0_scratch0
abbrev sM : Memref sig .tc .vmem S3x512x1024 .f32 := Memref.whole cc0_scratch1
abbrev cM : Memref sig .tc .vmem S3x512x1024 .f32 := Memref.whole cc0_scratch2

theorem slot_inb (j : Fin 3) : ∀ a, (![j.val, 0, 0] : Fin 3 → ℕ) a + S1x512x1024.size a ≤ S3x512x1024.size a := by revert j; decide
theorem exp_inb (k : Fin 4) : ∀ a, (![k.val, 0, 0] : Fin 3 → ℕ) a + S1x512x1024.size a ≤ S4x512x1024.size a := by revert k; decide
theorem sem_inb (j : Fin 3) : ∀ a, (![j.val] : Fin 1 → ℕ) a + S1.size a ≤ S3.size a := by revert j; decide

/-- The rectangle of slot `j` in a three-slot buffer, -/
abbrev slotR (j : Fin 3) : Rect S3x512x1024 := Rect.unit (s := S3x512x1024) ![j.val, 0, 0] S1x512x1024.size (slot_inb j)
/-- and of expert `k`'s matrix among a device's four. -/
abbrev expR (k : Fin 4) : Rect S4x512x1024 := Rect.unit (s := S4x512x1024) ![k.val, 0, 0] S1x512x1024.size (exp_inb k)
abbrev xR (e : Dev nD) : Rect S2048x512 := Rect.unit (s := S2048x512) (rowsAt e) S512x512.size (rows_x_inb e)
abbrev kR (e : Dev nD) : Rect S2048x4 := Rect.unit (s := S2048x4) (rowsAt e) S512x4.size (rows_k_inb e)

/-- Slot `j` of the send buffer and of the landing buffer. -/
abbrev sSlot (j : Fin 3) : Memref sig .tc .vmem S512x1024 .f32 := (sM.slice (slotR j) (fun _ => rfl)).squeeze S512x1024 squeezes_S1x512x1024_S512x1024
abbrev cSlot (j : Fin 3) : Memref sig .tc .vmem S512x1024 .f32 := (cM.slice (slotR j) (fun _ => rfl)).squeeze S512x1024 squeezes_S1x512x1024_S512x1024

/-! ## The cells -/

/-- The barrier semaphore, and the `j`-th send and receive semaphores. -/
abbrev barS : Sem sig := (SemArray.scalar (sig.barrier 0 rfl) : Sems sig S_).sem
abbrev sendS (j : Fin 3) : DmaSem sig := ((cc0_scratch3.slice (Rect.unit (s := S3) ![j.val] S1.size (sem_inb j))).squeeze S_ squeezes_S1_S_).sem
abbrev recvS (j : Fin 3) : DmaSem sig := ((cc0_scratch4.slice (Rect.unit (s := S3) ![j.val] S1.size (sem_inb j))).squeeze S_ squeezes_S1_S_).sem

abbrev barCell (c : Dev nD) : GSem nD τ sig := ((c : Thread nD τ), .reg barS)
abbrev sendCell (j : Fin 3) (c : Dev nD) : GSem nD τ sig := ((c : Thread nD τ), .dma (sendS j))
abbrev recvCell (j : Fin 3) (c : Dev nD) : GSem nD τ sig := ((c : Thread nD τ), .dma (recvS j))

/-- The kernel's own six semaphores: sends 0, 1, 2, then receives 0, 1, 2; -/
abbrev osem : Fin 6 → SemLoc sig := fun
  | 0 => .dma (sendS 0) | 1 => .dma (sendS 1) | 2 => .dma (sendS 2) | 3 => .dma (recvS 0) | 4 => .dma (recvS 1) | 5 => .dma (recvS 2)
/-- all seven of the protocol's: the barrier, then those six. -/
abbrev csem : Fin 7 → SemLoc sig := fun
  | 0 => .reg barS | 1 => .dma (sendS 0) | 2 => .dma (sendS 1) | 3 => .dma (sendS 2)
  | 4 => .dma (recvS 0) | 5 => .dma (recvS 1) | 6 => .dma (recvS 2)
abbrev kcell (ck : Dev nD × Fin 7) : GSem nD τ sig := ((ck.1 : Thread nD τ), csem ck.2)
/-- The places of send `j` and receive `j` among the seven. -/
abbrev sIx : Fin 3 → Fin 7 := ![1, 2, 3]
abbrev rIx : Fin 3 → Fin 7 := ![4, 5, 6]
theorem kcell_s (j : Fin 3) (c : Dev nD) : kcell (c, sIx j) = sendCell j c := by fin_cases j <;> rfl
theorem kcell_r (j : Fin 3) (c : Dev nD) : kcell (c, rIx j) = recvCell j c := by fin_cases j <;> rfl

/-- Which transfer a semaphore belongs to: `(false, j)` for send `j`, `(true, j)` for receive `j`, nothing for the others. -/
def roleOf (q : DmaSem sig) : Option (Bool × Fin 3) :=
  if q = sendS 0 then some (false, 0) else if q = sendS 1 then some (false, 1) else if q = sendS 2 then some (false, 2)
  else if q = recvS 0 then some (true, 0) else if q = recvS 1 then some (true, 1) else if q = recvS 2 then some (true, 2) else none
theorem roleOf_send (j : Fin 3) : roleOf (sendS j) = some (false, j) := by revert j; decide
theorem roleOf_recv (j : Fin 3) : roleOf (recvS j) = some (true, j) := by revert j; decide

/-- What one transfer of a 512 × 1024 block credits. -/
abbrev N : ℕ := (cSlot 0).view.dmaCredit
theorem N_pos : 0 < N := View.dmaCredit_pos _ (by decide)
theorem N_c (j : Fin 3) : (cSlot j).view.dmaCredit = N := rfl
theorem N_s (j : Fin 3) : (sSlot j).view.dmaCredit = N := rfl

/-! ## Contents -/

/-- Device `c`'s staged inputs: all tokens, all expert indices, its own four experts' matrices. -/
def xstg (c : Dev nD) : (cc0_stg0_0 : Ref sig .tc).ty.Contents (Elt F) :=
  (win0_0.blk (0 : Fin 1)).view.read (Elt F) ((s₀ m ρ).mem ((c : Thread nD τ).loc main_arg0))
def istg (c : Dev nD) : (cc0_stg1_0 : Ref sig .tc).ty.Contents (Elt F) :=
  (win0_1.blk (0 : Fin 1)).view.read (Elt F) ((s₀ m ρ).mem ((c : Thread nD τ).loc main_arg2))
def wstg (c : Dev nD) : (cc0_stg2_0 : Ref sig .tc).ty.Contents (Elt F) :=
  (win0_2.blk (0 : Fin 1)).view.read (Elt F) ((s₀ m ρ).mem ((c : Thread nD τ).loc main_arg3))

/-- The device's number as the kernel computes it. -/
abbrev dword (c : Dev nD) : BitVec 32 := Scalar.remsi (Scalar.divsi (Dev.word c) 1#32) 4#32

/-- The table device `c` keeps: which tokens each of its four experts takes, as zeros and ones. -/
def keepOf (w : BitVec 32) (idx : Vec F S2048x1 .i32) : FVec F S2048x4 .f32 :=
  k0_pay4 (k0_pay1 w idx) (k0_pay2 w idx) (k0_pay3 w idx)
def keep (c : Dev nD) : (cc0_scratch0 : Ref sig .tc).ty.Contents (Elt F) := keepOf (dword c) (istg m ρ c)

/-- What four experts add to a chunk: the chunk's rows masked by each expert's column, times that expert's matrix, summed. -/
def chunkF (x : Vec F S512x512 .f32) (k : Vec F S512x4 .f32) (w0 w1 w2 w3 : Vec F S1x512x1024 .f32) : FVec F S512x1024 .f32 :=
  k0_pay20 (k0_pay18 x k w0 w1 w2) (k0_pay19 x k) w3

/-- Rows of chunk `e`, of the tokens and of the table; expert `k`'s matrix. -/
def xrows (c e : Dev nD) : Vec F S512x512 .f32 := xM.view.readAt (Elt F) (xR e).toLoadRect (xstg m ρ c)
def krows (c e : Dev nD) : Vec F S512x4 .f32 := kM.view.readAt (Elt F) (kR e).toLoadRect (keep m ρ c)
def wexp (c : Dev nD) (k : Fin 4) : Vec F S1x512x1024 .f32 := wM.view.readAt (Elt F) (expR k).toLoadRect (wstg m ρ c)

/-- What device `c`'s experts add to chunk `e`. -/
def chunkOf (c e : Dev nD) : FVec F S512x1024 .f32 :=
  chunkF (xrows m ρ c e) (krows m ρ c e) (wexp m ρ c 0) (wexp m ρ c 1) (wexp m ρ c 2) (wexp m ρ c 3)

/-- The result on device `c`: its own experts' part of its chunk and the three parts that arrive. -/
def outAt (c : Dev nD) : (cc0_stg3_0 : Ref sig .tc).ty.Contents (Elt F) :=
  addf (addf (addf (chunkOf m ρ c c) (chunkOf m ρ (src 1 c) c)) (chunkOf m ρ (src 2 c) c)) (chunkOf m ρ (src 0 c) c)

/-- The three sends compute their parts by the same formula, one unit axis in front. -/
theorem pay8_eq (x : Vec F S512x512 .f32) (k : Vec F S512x4 .f32) (w0 w1 w2 w3 : Vec F S1x512x1024 .f32) :
    k0_pay8 (k0_pay6 x k w0 w1 w2) (k0_pay7 x k) w3 = shapeCast S1x512x1024 (chunkF x k w0 w1 w2 w3) shapeCasts_S512x1024_S1x512x1024 := rfl
theorem pay12_eq (x : Vec F S512x512 .f32) (k : Vec F S512x4 .f32) (w0 w1 w2 w3 : Vec F S1x512x1024 .f32) :
    k0_pay12 (k0_pay9 x) (k0_pay10 x k w0 w1 w2) (k0_pay11 k) w3 = shapeCast S1x512x1024 (chunkF x k w0 w1 w2 w3) shapeCasts_S512x1024_S1x512x1024 := rfl
theorem pay16_eq (x : Vec F S512x512 .f32) (k : Vec F S512x4 .f32) (w0 w1 w2 w3 : Vec F S1x512x1024 .f32) :
    k0_pay16 (k0_pay13 x) k (k0_pay14 x k w0 w1) (k0_pay15 x k) w2 w3 = shapeCast S1x512x1024 (chunkF x k w0 w1 w2 w3) shapeCasts_S512x1024_S1x512x1024 := rfl

/-! ## Holding a slot -/

/-- Slot `j` of the send buffer and of the landing buffer on device `c`, at contents `f`. -/
def sPts (j : Fin 3) (c : Dev nD) (f : Buf (Elt F) ((sSlot j).view.loc (c : Thread nD τ))) : sProp 𝕄 :=
  (sSlot j).view.loc (c : Thread nD τ) ↦[(sSlot j).view.set]{fullShare} f
def cPts (j : Fin 3) (c : Dev nD) (f : Buf (Elt F) ((cSlot j).view.loc (c : Thread nD τ))) : sProp 𝕄 :=
  (cSlot j).view.loc (c : Thread nD τ) ↦[(cSlot j).view.set]{fullShare} f

omit [FloatOps F] in
instance sPts_storable (j : Fin 3) (c : Dev nD) (f) : BI.Storable (upEmb : UEmb _ 𝕄) (sPts (F := F) j c f) := by unfold sPts; infer_instance
omit [FloatOps F] in
instance cPts_storable (j : Fin 3) (c : Dev nD) (f) : BI.Storable (upEmb : UEmb _ 𝕄) (cPts (F := F) j c f) := by unfold cPts; infer_instance

/-- Two slots of a buffer have no element in common. -/
theorem slotR_disjoint (j j' : Fin 3) (h : j ≠ j') : Disjoint (slotR j).set (slotR j').set :=
  Rect.unit_disjoint 0 (by
    show j.val + 1 ≤ j'.val ∨ j'.val + 1 ≤ j.val
    have := Fin.val_ne_of_ne h
    omega)

theorem sSlot_set (j : Fin 3) : (sSlot j).view.set = (sM.access (slotR j)).set := View.set_reshape _ _
theorem cSlot_set (j : Fin 3) : (cSlot j).view.set = (cM.access (slotR j)).set := View.set_reshape _ _

theorem sSlot_disjoint (j j' : Fin 3) (h : j ≠ j') : Disjoint (sSlot j).view.set (sSlot j').view.set := by
  rw [sSlot_set, sSlot_set]; exact View.disjoint_slice (slotR_disjoint j j' h)
theorem cSlot_disjoint (j j' : Fin 3) (h : j ≠ j') : Disjoint (cSlot j).view.set (cSlot j').view.set := by
  rw [cSlot_set, cSlot_set]; exact View.disjoint_slice (slotR_disjoint j j' h)

omit [FloatOps F] in
/-- Storing a block with a unit axis in front into slot `j` of the send buffer makes the slot read as the block. -/
theorem read_stored (j : Fin 3) (f : sM.view.ty.Contents (Elt F)) (X : FVec F S512x1024 .f32) :
    (sSlot j).view.read (Elt F) ((sM.access (slotR j)).write (Elt F) f (shapeCast S1x512x1024 X shapeCasts_S512x1024_S1x512x1024) Finset.univ) = X := by
  show shapeCast S512x1024 ((sM.access (slotR j)).read (Elt F) ((sM.access (slotR j)).write (Elt F) f _ Finset.univ)) shapeCasts_S1x512x1024_S512x1024 = X
  rw [View.read_write_univ]
  exact shapeCast_shapeCast _ _ _

omit [FloatOps F] in
/-- A load of slot `j` of the landing buffer, its unit axis dropped, is what the slot reads as. -/
theorem cast_load (j : Fin 3) (f : cM.view.ty.Contents (Elt F)) :
    shapeCast S512x1024 (cM.view.readAt (Elt F) (slotR j).toLoadRect f) shapeCasts_S1x512x1024_S512x1024 = (cSlot j).view.read (Elt F) f := rfl

/-- The three additions of an arrived part. -/
theorem pay21_eq (o : Vec F S512x1024 .f32) (p : Vec F S1x512x1024 .f32) : k0_pay21 o p = addf o (shapeCast S512x1024 p shapeCasts_S1x512x1024_S512x1024) := by
  show addf (shapeCast S512x1024 o _) _ = _; rw [shapeCast_self]
theorem pay22_eq (o : Vec F S512x1024 .f32) (p : Vec F S1x512x1024 .f32) : k0_pay22 o p = addf o (shapeCast S512x1024 p shapeCasts_S1x512x1024_S512x1024) := by
  show addf (shapeCast S512x1024 o _) _ = _; rw [shapeCast_self]
theorem pay23_eq (o : Vec F S512x1024 .f32) (p : Vec F S1x512x1024 .f32) : k0_pay23 o p = addf o (shapeCast S512x1024 p shapeCasts_S1x512x1024_S512x1024) := by
  show addf (shapeCast S512x1024 o _) _ = _; rw [shapeCast_self]

end Cert.Moe

end
-- ==== Proof.Sched.lean ====
/-
# The schedule of the semaphores

One round. The barrier cell of a device collects one unit from each of the other three; the unit that the receiver of
send `j` pays hands the sender the receiver's landing slot `j`, so that once its barrier wait is over a device may
write all three slots its sends land in. A receive cell collects one transfer's credit and hands its device the landing slot
with what arrived; a send cell hands back the send slot.
-/
module

public import proofs.«01_k».proof.Proof.Cells

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- What the receiver of `c`'s send `j` hands `c` at the barrier: the landing slot. -/
def barPay (c : Dev nD) (j : Fin 3) : sProp 𝕄 := iprop(∃ f, cPts j (dst j c) f)
/-- What arrives in `c`'s landing slot `j`: the part of `c`'s chunk that the sender's experts add. -/
def recvPay (j : Fin 3) (c : Dev nD) : sProp 𝕄 := iprop(∃ f, ⌜(cSlot j).view.read (Elt F) f = chunkOf m ρ (src j c) c⌝ ∗ cPts j c f)
/-- What a finished send gives back: the send slot. -/
def sendPay (j : Fin 3) (c : Dev nD) : sProp 𝕄 := iprop(∃ f, sPts j c f)

/-- What a transfer semaphore's round hands its device. -/
def dmaPay (c : Dev nD) : Option (Bool × Fin 3) → sProp 𝕄
  | some (true, j) => recvPay m ρ j c
  | some (false, j) => sendPay j c
  | none => iprop(emp)

/-- Which duties a cell of round 0 has: three at a barrier, one at a transfer's. -/
def dutiesAt : SemLoc sig → Finset (Fin 3)
  | .reg s => if s = barS then Finset.univ else ∅
  | .dma q => if (roleOf q).isSome then {0} else ∅

/-- The schedule. -/
def rd : Rounds.Schedule (GSem nD τ sig) (Fin 3) 𝕄 where
  duties g r := if r = 0 ∧ g.1.2 = .tc then dutiesAt g.2 else ∅
  unitless _ := False
  amount g _ _ := match g.2 with | .reg _ => 1 | .dma _ => N
  payload g _ d := match g.2 with | .reg _ => barPay g.1.1 d | .dma q => dmaPay m ρ g.1.1 (roleOf q)
  amount_pos g _ _ _ := by
    rcases g with ⟨t, s | q⟩
    · exact Nat.one_pos
    · exact N_pos

instance dmaPay_storable (c : Dev nD) (o : Option (Bool × Fin 3)) : BI.Storable (upEmb : UEmb _ 𝕄) (dmaPay (F := F) m ρ c o) := by
  rcases o with _ | ⟨_ | _, j⟩
  · unfold dmaPay; infer_instance
  · unfold dmaPay sendPay; infer_instance
  · unfold dmaPay recvPay; infer_instance

instance rd_payload_storable (g : GSem nD τ sig) (r : ℕ) (d : Fin 3) :
    BI.Storable (upEmb : UEmb _ 𝕄) ((rd (F := F) m ρ).payload g r d) := by
  rcases g with ⟨t, s | q⟩
  · show BI.Storable upEmb (barPay t.1 d); unfold barPay; infer_instance
  · exact dmaPay_storable m ρ t.1 (roleOf q)

section Tables
variable (c : Dev nD) (j : Fin 3)

theorem duties_bar : (rd (F := F) m ρ).duties (barCell c) 0 = Finset.univ := by
  show (if 0 = 0 ∧ (c : Thread nD τ).2 = .tc then (if barS = barS then (Finset.univ : Finset (Fin 3)) else ∅) else ∅) = _
  rw [if_pos ⟨rfl, rfl⟩, if_pos rfl]
theorem duties_send : (rd (F := F) m ρ).duties (sendCell j c) 0 = {0} := by
  show (if 0 = 0 ∧ (c : Thread nD τ).2 = .tc then (if (roleOf (sendS j)).isSome then ({0} : Finset (Fin 3)) else ∅) else ∅) = _
  rw [if_pos ⟨rfl, rfl⟩, roleOf_send]; rfl
theorem duties_recv : (rd (F := F) m ρ).duties (recvCell j c) 0 = {0} := by
  show (if 0 = 0 ∧ (c : Thread nD τ).2 = .tc then (if (roleOf (recvS j)).isSome then ({0} : Finset (Fin 3)) else ∅) else ∅) = _
  rw [if_pos ⟨rfl, rfl⟩, roleOf_recv]; rfl
theorem duties_later (g : GSem nD τ sig) : ∀ r, 1 ≤ r → (rd (F := F) m ρ).duties g r = ∅ :=
  fun r hr => if_neg fun h => by omega

theorem amount_bar (d : Fin 3) : (rd (F := F) m ρ).amount (barCell c) 0 d = 1 := rfl
theorem amount_send (d : Fin 3) : (rd (F := F) m ρ).amount (sendCell j c) 0 d = N := rfl
theorem amount_recv (d : Fin 3) : (rd (F := F) m ρ).amount (recvCell j c) 0 d = N := rfl

theorem expect_bar : (rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send : (rd (F := F) m ρ).expect (sendCell j c) 0 = N := by
  unfold Schedule.expect Schedule.amountOf; rw [duties_send, Finset.sum_singleton, amount_send]
theorem expect_recv : (rd (F := F) m ρ).expect (recvCell j c) 0 = N := by
  unfold Schedule.expect Schedule.amountOf; rw [duties_recv, Finset.sum_singleton, amount_recv]

theorem payload_bar (d : Fin 3) : (rd (F := F) m ρ).payload (barCell c) 0 d = barPay c d := rfl
theorem payload_send (d : Fin 3) : (rd (F := F) m ρ).payload (sendCell j c) 0 d = sendPay j c := by
  show dmaPay m ρ c (roleOf (sendS j)) = _; rw [roleOf_send]; rfl
theorem payload_recv (d : Fin 3) : (rd (F := F) m ρ).payload (recvCell j c) 0 d = recvPay m ρ j c := by
  show dmaPay m ρ c (roleOf (recvS j)) = _; rw [roleOf_recv]; rfl

/-- What a whole round hands over: at the barrier all three landing slots, at a transfer its slot. -/
theorem rest_bar : bigSep ((rd (F := F) m ρ).duties (barCell c) 0 \ ∅) (fun d => (rd (F := F) m ρ).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
theorem rest_send : bigSep ((rd (F := F) m ρ).duties (sendCell j c) 0 \ ∅) (fun d => (rd (F := F) m ρ).payload (sendCell j c) 0 d) = sendPay j c := by
  rw [Finset.sdiff_empty, duties_send, bigSep_singleton, payload_send]
theorem rest_recv : bigSep ((rd (F := F) m ρ).duties (recvCell j c) 0 \ ∅) (fun d => (rd (F := F) m ρ).payload (recvCell j c) 0 d) = recvPay m ρ j c := by
  rw [Finset.sdiff_empty, duties_recv, bigSep_singleton, payload_recv]

end Tables

/-! ## What each device owes at launch, and the levels -/

/-- What device `c` owes the receive cell of its send `j`, and the barrier cell of the device whose send `j` it receives. -/
abbrev owR (c : Dev nD) (j : Fin 3) : CellTallies nD τ sig Unit := tallyAt (recvCell j (dst j c)) () N
abbrev owB (c : Dev nD) (j : Fin 3) : CellTallies nD τ sig Unit := tallyAt (barCell (src j c)) () 1

/-- The three transfers, sends 0, 1, 2 peeling from the right; then all six debts, the signals peeling in program order. -/
def OR (c : Dev nD) : CellTallies nD τ sig Unit := 0 + owR c 2 + owR c 1 + owR c 0
def O₀ (c : Dev nD) : CellTallies nD τ sig Unit := OR c + owB c 1 + owB c 0 + owB c 2

def L (g : GSem nD τ sig) : Finset Unit := if g.1.2 = .tc then {()} else ∅
/-- Barrier cells lie at level 1, receive cells at 2, everything else at 0. -/
def lvS : SemLoc sig → ℕ
  | .reg s => if s = barS then 1 else 0
  | .dma q => match roleOf q with | some (true, _) => 2 | _ => 0
def lv (g : GSem nD τ sig) (_ : Unit) : ℕ := lvS g.2

theorem lv_bar (c : Dev nD) : lv (barCell c) () = 1 := by simp only [lv, lvS, if_true]
theorem lv_recv (c : Dev nD) (j : Fin 3) : lv (recvCell j c) () = 2 := by simp only [lv, lvS, roleOf_recv]
theorem lv_send (c : Dev nD) (j : Fin 3) : lv (sendCell j c) () = 0 := by simp only [lv, lvS, roleOf_send]

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
theorem tallyAt_pos {g g' : GSem nD τ sig} {u : Unit} {n : ℕ} (h : 0 < tallyAt g () n g' u) : g' = g := by
  rw [tallyAt_apply] at h
  by_contra hn
  rw [if_neg fun h' => hn h'.1] at h
  exact Nat.lt_irrefl 0 h

omit [FloatOps F] in
theorem add_pos' {A B : CellTallies nD τ sig Unit} {g : GSem nD τ sig} {u : Unit} (h : 0 < (A + B) g u) : 0 < A g u ∨ 0 < B g u := by
  rw [Pi.add_apply, Finsupp.add_apply] at h; omega

/-- The transfers' debts are to receive cells, -/
theorem OR_pos {c : Dev nD} {g : GSem nD τ sig} {u : Unit} (h : 0 < OR c g u) : ∃ j c', g = recvCell j c' := by
  unfold OR at h
  rcases add_pos' h with h | h
  · rcases add_pos' h with h | h
    · rcases add_pos' h with h | h
      · exact absurd h (Nat.lt_irrefl 0)
      · exact ⟨_, _, tallyAt_pos h⟩
    · exact ⟨_, _, tallyAt_pos h⟩
  · exact ⟨_, _, tallyAt_pos h⟩

/-- the others to barrier cells. -/
theorem O₀_pos {c : Dev nD} {g : GSem nD τ sig} {u : Unit} (h : 0 < O₀ c g u) : (∃ j c', g = recvCell j c') ∨ ∃ c', g = barCell c' := by
  unfold O₀ at h
  rcases add_pos' h with h | h
  · rcases add_pos' h with h | h
    · rcases add_pos' h with h | h
      · exact .inl (OR_pos h)
      · exact .inr ⟨_, tallyAt_pos h⟩
    · exact .inr ⟨_, tallyAt_pos h⟩
  · exact .inr ⟨_, tallyAt_pos h⟩

/-- A staging or send semaphore (level 0) may be waited for under all of a device's debts, or under none. -/
theorem mayWait_stage (c : Dev nD) (q : DmaSem sig) (hq : lvS (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, c', rfl⟩ | ⟨c', rfl⟩ <;> exact Finset.mem_singleton_self _)
      (fun p hp => by rw [Finset.mem_singleton.mp hp]; exact hq.le)
      (fun g u hg => by
        rcases O₀_pos hg with ⟨j, c', rfl⟩ | ⟨c', rfl⟩
        · rw [lv_recv]; decide
        · rw [lv_bar]; decide)
  · rw [MayWait_zero]; iintro -; iempintro

/-- At its barrier wait a device owes its three transfers' credits only, all at level 2. -/
theorem mayWait_bar (c : Dev nD) : (levAts L lv : sProp 𝕄) ⊢ MayWait (c : Thread nD τ) (.reg barS) () (OR c) :=
  MayOwe.of_cut (L := L) (lev := lv) 1 (fun p hp => by rw [Finset.mem_singleton.mp hp, L_tc]; exact Finset.mem_singleton_self _)
    (fun g u hg => by obtain ⟨j, c', rfl⟩ := OR_pos hg; exact Finset.mem_singleton_self _)
    (fun p hp => by rw [Finset.mem_singleton.mp hp]; exact (lv_bar c).le)
    (fun g u hg => by obtain ⟨j, c', rfl⟩ := OR_pos hg; rw [lv_recv]; decide)

end Cert.Moe

end
-- ==== Proof.Body.lean ====
/-
# One device's run

The kernel body, executed once for an arbitrary device: the three signals, the barrier wait, the table, the three parts
computed and sent, the device's own part, the three arrivals added, the three send waits.
-/
module

public import proofs.«01_k».proof.Proof.Sched

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from -/

/-- Every cell's invariant, and that every cell is at round 0: shared by all devices. -/
def records (K : Dev nD × Fin 7 → ℕ) : sProp 𝕄 :=
  iprop((bigSep Finset.univ fun ck : Dev nD × Fin 7 => cellInv ER (rd m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem rec_at (K : Dev nD × Fin 7 → ℕ) (ck : Dev nD × Fin 7) :
    records m ρ K ⊢ iprop(cellInv ER (rd m ρ) (K ck) (kcell ck) ∗ reached ER (kcell ck) 0) :=
  Idealize.SL.BI.sep_mono (bigSep_elim (Finset.mem_univ ck)) (bigSep_elim (Finset.mem_univ ck))
theorem rec_bar (K : Dev nD × Fin 7 → ℕ) (c : Dev nD) :
    records m ρ K ⊢ iprop(cellInv ER (rd m ρ) (K (c, 0)) (barCell c) ∗ reached ER (barCell c) 0) := rec_at m ρ K (c, 0)
theorem rec_send (K : Dev nD × Fin 7 → ℕ) (j : Fin 3) (c : Dev nD) :
    records m ρ K ⊢ iprop(cellInv ER (rd m ρ) (K (c, sIx j)) (sendCell j c) ∗ reached ER (sendCell j c) 0) := by
  rw [← kcell_s]; exact rec_at m ρ K (c, sIx j)
theorem rec_recv (K : Dev nD × Fin 7 → ℕ) (j : Fin 3) (c : Dev nD) :
    records m ρ K ⊢ iprop(cellInv ER (rd m ρ) (K (c, rIx j)) (recvCell j c) ∗ reached ER (recvCell j c) 0) := by
  rw [← kcell_r]; exact rec_at m ρ K (c, rIx j)

/-- A device's positions on its seven cells, -/
def poss (c : Dev nD) : sProp 𝕄 :=
  iprop(atPos ER (barCell c) 0 ∅ 0
    ∗ atPos ER (sendCell 0 c) 0 ∅ 0 ∗ atPos ER (sendCell 1 c) 0 ∅ 0 ∗ atPos ER (sendCell 2 c) 0 ∅ 0
    ∗ atPos ER (recvCell 0 c) 0 ∅ 0 ∗ atPos ER (recvCell 1 c) 0 ∅ 0 ∗ atPos ER (recvCell 2 c) 0 ∅ 0)
/-- and the tokens of the duties it pays: three signals, three landings, three send credits. -/
def payToks (c : Dev nD) : sProp 𝕄 :=
  iprop((dutyTok ER (barCell (src 0 c)) 0 0 ∗ dutyTok ER (barCell (src 1 c)) 0 1 ∗ dutyTok ER (barCell (src 2 c)) 0 2)
    ∗ (dutyTok ER (sendCell 0 c) 0 0 ∗ dutyTok ER (sendCell 1 c) 0 0 ∗ dutyTok ER (sendCell 2 c) 0 0)
    ∗ (dutyTok ER (recvCell 0 (dst 0 c)) 0 0 ∗ dutyTok ER (recvCell 1 (dst 1 c)) 0 0 ∗ dutyTok ER (recvCell 2 (dst 2 c)) 0 0))
def linear (c : Dev nD) : sProp 𝕄 := iprop(poss c ∗ payToks c)

/-- The credit a device starts with: its barrier's three units, its three arrivals. -/
def credsOf (c : Dev nD) : sProp 𝕄 :=
  iprop(cred (tallyAt (barCell c) () 3) ∗ cred (tallyAt (recvCell 0 c) () N) ∗ cred (tallyAt (recvCell 1 c) () N) ∗ cred (tallyAt (recvCell 2 c) () N))

/-- What device `c`'s body starts from. -/
def start (c : Dev nD) : sProp 𝕄 := iprop((∃ K, records m ρ K ∗ linear c) ∗ credsOf c ∗ levAts L lv)

/-- The three scratch buffers at some contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ ∃ f, ((c : Thread nD τ).loc cc0_scratch2) ↦{fullShare} f)
def Φ₀ (c : Dev nD) : sProp 𝕄 := iprop(start m ρ c ∗ scratch c)
/-- All seven counters at zero. -/
def closed (c : Dev nD) : sProp 𝕄 :=
  iprop(semVal (barCell c) 0 ∗ semVal (sendCell 0 c) 0 ∗ semVal (sendCell 1 c) 0 ∗ semVal (sendCell 2 c) 0
    ∗ semVal (recvCell 0 c) 0 ∗ semVal (recvCell 1 c) 0 ∗ semVal (recvCell 2 c) 0)
/-- After the body: the scratch buffers at some contents, all seven cells closed. -/
def Φ₁ (c : Dev nD) : sProp 𝕄 := iprop(scratch c ∗ closed c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => istg m ρ c
    | ⟨2, _⟩ => wstg m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

/-! ## Reading and writing -/

omit [FloatOps F] in
theorem z2 : (![0, 0] : Fin 2 → Nat) = fun _ => 0 := funext fun a => by fin_cases a <;> rfl

omit [FloatOps F] in
/-- A load of chunk `e`'s rows, at an offset the kernel computes. -/
theorem read_x {o : Fin 2 → ℕ} (e : Dev nD) (h : o = rowsAt e) (hb : ∀ a, o a + S512x512.size a ≤ S2048x512.size a) (f : xM.view.ty.Contents (Elt F)) :
    xM.view.readAt (Elt F) (Rect.unit (s := S2048x512) o S512x512.size hb).toLoadRect f = xM.view.readAt (Elt F) (xR e).toLoadRect f := by subst h; rfl
omit [FloatOps F] in
theorem read_k {o : Fin 2 → ℕ} (e : Dev nD) (h : o = rowsAt e) (hb : ∀ a, o a + S512x4.size a ≤ S2048x4.size a) (f : kM.view.ty.Contents (Elt F)) :
    kM.view.readAt (Elt F) (Rect.unit (s := S2048x4) o S512x4.size hb).toLoadRect f = kM.view.readAt (Elt F) (kR e).toLoadRect f := by subst h; rfl

/-! ## The protocol's steps -/

section Body

variable (K : Dev nD × Fin 7 → ℕ)

/-- A signal: device `c` hands the sender of its send `j` its landing slot `j`. -/
theorem wp_hand (c n : Dev nD) (j : Fin 3) (hn : n = src j c) {α : Type} {Q : α → sProp 𝕄} {k : PUnit → Prog (TpuEff nD τ sig (Elt F) Λ₀ .tc) α}
    (O : CellTallies nD τ sig Unit) (W : Waits sig Unit) :
    iprop(records m ρ K ∗ owes (c : Thread nD τ) (O + owB c j) W ∗ dutyTok ER (barCell (src j c)) 0 j ∗ (∃ f, cPts j c f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS (1#32).toNat) k) Q) := by
  subst hn
  iintro ⟨#HR, HO, Ht, Hs⟩ Hk
  ihave H := (rec_bar m ρ K (src j c)) $$ HR
  icases H with ⟨#HI, #Hr⟩
  iapply (Rounds.wp_signal 𝒱₀ ER (rd m ρ) (c : Thread nD τ) none (dst := (src j c : Thread nD τ)) (κ := K (src j c, 0))
      (d := j) (by rw [duties_bar]; exact Finset.mem_univ _) ((amount_bar m ρ (src j c) j).trans (by decide)) () O rfl)
    $$ [HO Ht Hs]
  · isplitr; · iexact HI
    isplitl [HO]; · iexact HO
    isplitl [Ht]; · iexact Ht
    isplitl [Hs]
    · rw [payload_bar]; unfold barPay; rw [dst_src]; iexact Hs
    iexact Hr
  iexact Hk

/-- The barrier wait: the three landing slots `c` will write come with it, and the barrier cell is closed. -/
theorem wp_barrier (c : Dev nD) {α : Type} {Q : α → sProp 𝕄} {k : PUnit → Prog (TpuEff nD τ sig (Elt F) Λ₀ .tc) α} (W : Waits sig Unit) :
    iprop(records m ρ K ∗ levAts L lv ∗ owes (c : Thread nD τ) (OR c) W ∗ cred (tallyAt (barCell c) () 3) ∗ atPos ER (barCell c) 0 ∅ 0)
      ⊢ iprop(((owes (c : Thread nD τ) (OR c) (insert (SemLoc.reg barS, ()) W) ∗ semVal (barCell c) 0 ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32).toNat) k) Q) := by
  iintro ⟨#HR, #Hlev, HO, Hc, Ha⟩ Hk
  ihave H := (rec_bar m ρ K c) $$ HR
  icases H with ⟨#HI, -⟩
  iapply (Rounds.wp_wait_rest_token 𝒱₀ ER (rd m ρ) (c : Thread nD τ) none (κ := K (c, 0))
      (wpE_semWait_eq 𝒱₀ (c : Thread nD τ) none Set.univ) (Set.mem_univ _) () (O := OR c) (W := W) (R := 0) (m := 0) (T := ∅)
      (by rw [expect_bar]; decide)) $$ [Hc HO Ha]
  · isplitr; · iexact HI
    isplitl [Hc]; · iexact Hc
    isplitl [HO]; · iexact HO
    isplitr; · iapply (mayWait_bar c); iexact Hlev
    iexact Ha
  iintro ⟨HO, Ha, -, Hpay⟩
  ihave Hp := (Entails.of_eq (rest_bar m ρ c)) $$ Hpay
  imod (Rounds.cell_close ER (rd m ρ) (Set.mem_univ (K (c, 0))) (fun h => h) (R := 0 + 1) (duties_later m ρ (barCell c))) $$ [Ha] with Hz
  · isplitr; · iexact HI
    iexact Ha
  iapply Hk
  isplitl [HO]; · iexact HO
  isplitl [Hz]; · iexact Hz
  iexact Hp

/-- Send `j`: out of the send slot holding `c`'s part of the receiver's chunk, into the receiver's landing slot. -/
theorem wp_send_part (c n : Dev nD) (j : Fin 3) (hn : n = dst j c) {hsc : (cSlot j : Memref sig (Dev.tc n : Thread nD τ).2.kind .vmem S512x1024 .f32).view.ref.isScScratch = false}
    {hsrc : (sSlot j).view.WordExact} {hdst : (cSlot j).view.WordExact}
    {hsem : DmaTarget.Typed .vmem (.dma (recvS j)) (.remote (Dev.tc n : Thread nD τ) (cSlot j) (.dma (sendS j)) hsc)}
    {α : Type} {Q : α → sProp 𝕄} {k : PUnit → Prog (TpuEff nD τ sig (Elt F) Λ₀ .tc) α}
    (O : CellTallies nD τ sig Unit) (W : Waits sig Unit) (fs : Buf (Elt F) ((sSlot j).view.loc (c : Thread nD τ)))
    (hfs : (sSlot j).view.read (Elt F) fs = chunkOf m ρ c (dst j c)) :
    iprop(records m ρ K ∗ owes (c : Thread nD τ) (O + owR c j) W ∗ dutyTok ER (sendCell j c) 0 0 ∗ dutyTok ER (recvCell j (dst j c)) 0 0
        ∗ sPts j c fs ∗ barPay c j)
      ⊢ iprop(((cred (tallyAt (sendCell j c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSlot j) (.remote (Dev.tc n : Thread nD τ) (cSlot j) (.dma (sendS j)) hsc) (.dma (recvS j)) hsrc hdst hsem) k) Q) := by
  subst hn
  iintro ⟨#HR, HO, HtS, HtR, Hs, Hd⟩ Hk
  unfold barPay
  icases Hd with ⟨%fd, Hd⟩
  ihave H := (rec_send m ρ K j c) $$ HR
  icases H with ⟨#HIs, #Hrs⟩
  ihave H := (rec_recv m ρ K j (dst j c)) $$ HR
  icases H with ⟨#HIr, #Hrr⟩
  unfold sPts cPts
  iapply (Rounds.wp_send_pointsTo 𝒱₀ ER (rd m ρ) (c : Thread nD τ) none (κ₁ := K (c, sIx j)) (κ₂ := K (dst j c, rIx j))
    (r₁ := 0) (r₂ := 0) (d₁ := 0) (d₂ := 0) (fd := fd)
    (by rw [duties_send]; exact Finset.mem_singleton_self _) (by rw [duties_recv]; exact Finset.mem_singleton_self _)
    () () N rfl (amount_send m ρ c j 0) (amount_recv m ρ (dst j c) j 0) O rfl (W := W)
    (by rw [payload_send]; unfold sendPay sPts; iintro H; iexists fs; iexact H)
    (by
      rw [payload_recv]; unfold recvPay cPts
      iintro H
      iexists ((cSlot j).view.write (Elt F) fd ((sSlot j).view.read (Elt F) fs) Finset.univ)
      isplitr
      · ipureintro; rw [View.read_write_univ, hfs, src_dst]
      · iexact H)) $$ [HO HtS HtR Hs Hd]
  · isplitr; · iexact HIs
    isplitr; · iexact HIr
    isplitl [Hs]; · iexact Hs
    isplitl [Hd]; · iexact Hd
    isplitl [HO]; · iexact HO
    isplitl [HtS]; · iexact HtS
    isplitr; · iexact Hrs
    isplitl [HtR]; · iexact HtR
    iexact Hrr
  iexact Hk

/-- The wait for arrival `j`: the landing slot with what arrived, and the cell closed. -/
theorem wp_arrive (c : Dev nD) (j : Fin 3) {hs : (sSlot j).view.WordExact} {hd : (cSlot j).view.WordExact}
    {α : Type} {Q : α → sProp 𝕄} {k : PUnit → Prog (TpuEff nD τ sig (Elt F) Λ₀ .tc) α} (W : Waits sig Unit) :
    iprop(records m ρ K ∗ owes (c : Thread nD τ) 0 W ∗ cred (tallyAt (recvCell j c) () N) ∗ atPos ER (recvCell j c) 0 ∅ 0)
      ⊢ iprop(((owes (c : Thread nD τ) 0 (insert (SemLoc.dma (recvS j), ()) W) ∗ semVal (recvCell j c) 0 ∗ recvPay m ρ j c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS j) (sSlot j) (cSlot j) hs hd) k) Q) := by
  iintro ⟨#HR, HO, Hc, Ha⟩ Hk
  ihave H := (rec_recv m ρ K j c) $$ HR
  icases H with ⟨#HI, -⟩
  iapply (Rounds.wp_wait_rest_token 𝒱₀ ER (rd m ρ) (c : Thread nD τ) none (κ := K (c, rIx j))
      (wpE_waitDma2_eq 𝒱₀ (c : Thread nD τ) none Set.univ) (Set.mem_univ _) () (O := 0) (W := W) (R := 0) (m := 0) (T := ∅)
      (by rw [Nat.zero_add, expect_recv])) $$ [Hc HO Ha]
  · isplitr; · iexact HI
    isplitl [Hc]; · iexact Hc
    isplitl [HO]; · iexact HO
    isplitr; · rw [MayWait_zero]; iempintro
    iexact Ha
  iintro ⟨HO, Ha, -, Hpay⟩
  ihave Hp := (Entails.of_eq (rest_recv m ρ c j)) $$ Hpay
  imod (Rounds.cell_close ER (rd m ρ) (Set.mem_univ (K (c, rIx j))) (fun h => h) (R := 0 + 1) (duties_later m ρ (recvCell j c))) $$ [Ha] with Hz
  · isplitr; · iexact HI
    iexact Ha
  iapply Hk
  isplitl [HO]; · iexact HO
  isplitl [Hz]; · iexact Hz
  iexact Hp

/-- The wait for send `j` to have left: the send slot back, and the cell closed. -/
theorem wp_left (c : Dev nD) (j : Fin 3) {hs : (cSlot j).view.WordExact} {hd : (sSlot j).view.WordExact}
    {α : Type} {Q : α → sProp 𝕄} {k : PUnit → Prog (TpuEff nD τ sig (Elt F) Λ₀ .tc) α} (W : Waits sig Unit) :
    iprop(records m ρ K ∗ owes (c : Thread nD τ) 0 W ∗ cred (tallyAt (sendCell j c) () N) ∗ atPos ER (sendCell j c) 0 ∅ 0)
      ⊢ iprop(((owes (c : Thread nD τ) 0 (insert (SemLoc.dma (sendS j), ()) W) ∗ semVal (sendCell j c) 0 ∗ sendPay j c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS j) (cSlot j) (sSlot j) hs hd) k) Q) := by
  iintro ⟨#HR, HO, Hc, Ha⟩ Hk
  ihave H := (rec_send m ρ K j c) $$ HR
  icases H with ⟨#HI, -⟩
  iapply (Rounds.wp_wait_rest_token 𝒱₀ ER (rd m ρ) (c : Thread nD τ) none (κ := K (c, sIx j))
      (wpE_waitDma2_eq 𝒱₀ (c : Thread nD τ) none Set.univ) (Set.mem_univ _) () (O := 0) (W := W) (R := 0) (m := 0) (T := ∅)
      (by rw [Nat.zero_add, expect_send])) $$ [Hc HO Ha]
  · isplitr; · iexact HI
    isplitl [Hc]; · iexact Hc
    isplitl [HO]; · iexact HO
    isplitr; · rw [MayWait_zero]; iempintro
    iexact Ha
  iintro ⟨HO, Ha, -, Hpay⟩
  ihave Hp := (Entails.of_eq (rest_send m ρ c j)) $$ Hpay
  imod (Rounds.cell_close ER (rd m ρ) (Set.mem_univ (K (c, sIx j))) (fun h => h) (R := 0 + 1) (duties_later m ρ (sendCell j c))) $$ [Ha] with Hz
  · isplitr; · iexact HI
    iexact Ha
  iapply Hk
  isplitl [HO]; · iexact HO
  isplitl [Hz]; · iexact Hz
  iexact Hp

end Body

end Cert.Moe

end
-- ==== Proof.Exec.lean ====
/-
# The body from beginning to end

The steps of one device put together, and the pipeline's body obligation.
-/
module

public import proofs.«01_k».proof.Proof.Body

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Cutting the two three-slot buffers -/

abbrev sCut (c : Dev nD) (j : Fin 3) : Finset (Idx ((c : Thread nD τ).loc cc0_scratch1)) := (sSlot j).view.set
abbrev cCut (c : Dev nD) (j : Fin 3) : Finset (Idx ((c : Thread nD τ).loc cc0_scratch2)) := (cSlot j).view.set

/-- What lies in no slot of a buffer (nothing, but it need not be known). -/
def sRest (c : Dev nD) : sProp 𝕄 := iprop(∃ f, ((c : Thread nD τ).loc cc0_scratch1) ↦[Ring.restOf (sCut c)]{fullShare} f)
def cRest (c : Dev nD) : sProp 𝕄 := iprop(∃ f, ((c : Thread nD τ).loc cc0_scratch2) ↦[Ring.restOf (cCut c)]{fullShare} f)

omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ

omit [FloatOps F] in
theorem s_cut (c : Dev nD) : (iprop(∃ f, ((c : Thread nD τ).loc cc0_scratch1) ↦{fullShare} f) : sProp 𝕄)
    ⊢ iprop(((∃ f, sPts 0 c f) ∗ (∃ f, sPts 1 c f) ∗ (∃ f, sPts 2 c f)) ∗ sRest c) := by
  rw [← bigSep_three fun j => iprop(∃ f, sPts j c f)]
  exact Ring.fam_split_ex (sCut c) sSlot_disjoint
omit [FloatOps F] in
theorem c_cut (c : Dev nD) : (iprop(∃ f, ((c : Thread nD τ).loc cc0_scratch2) ↦{fullShare} f) : sProp 𝕄)
    ⊢ iprop(((∃ f, cPts 0 c f) ∗ (∃ f, cPts 1 c f) ∗ (∃ f, cPts 2 c f)) ∗ cRest c) := by
  rw [← bigSep_three fun j => iprop(∃ f, cPts j c f)]
  exact Ring.fam_split_ex (cCut c) cSlot_disjoint
omit [FloatOps F] in
theorem s_join (c : Dev nD) (f₀ : Buf (Elt F) ((c : Thread nD τ).loc cc0_scratch1)) :
    iprop(((∃ f, sPts 0 c f) ∗ (∃ f, sPts 1 c f) ∗ (∃ f, sPts 2 c f)) ∗ sRest c)
      ⊢ (iprop(∃ f, ((c : Thread nD τ).loc cc0_scratch1) ↦{fullShare} f) : sProp 𝕄) := by
  rw [← bigSep_three fun j => iprop(∃ f, sPts j c f)]
  exact Ring.fam_join (sCut c) sSlot_disjoint f₀
omit [FloatOps F] in
theorem c_join (c : Dev nD) (f₀ : Buf (Elt F) ((c : Thread nD τ).loc cc0_scratch2)) :
    iprop(((∃ f, cPts 0 c f) ∗ (∃ f, cPts 1 c f) ∗ (∃ f, cPts 2 c f)) ∗ cRest c)
      ⊢ (iprop(∃ f, ((c : Thread nD τ).loc cc0_scratch2) ↦{fullShare} f) : sProp 𝕄) := by
  rw [← bigSep_three fun j => iprop(∃ f, cPts j c f)]
  exact Ring.fam_join (cCut c) cSlot_disjoint f₀

/-! ## Loads and stores of this kernel -/

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem fetch_in (w : Fin 4) (hw : w ≠ 3) (t : Fin cfg0.N) : (cfg0.win w).fetch t = true := by
  rw [fin_N0 t]; revert w; decide

abbrev oR : Rect S512x1024 := Rect.unit (s := S512x1024) ![0, 0] S512x1024.size inb_S512x1024_S512x1024_0_0

omit [FloatOps F] in
theorem read_idx (f : iM.view.ty.Contents (Elt F)) :
    iM.view.readAt (Elt F) (Rect.unit (s := S2048x1) ![0, 0] S2048x1.size inb_S2048x1_S2048x1_0_0).toLoadRect f = f :=
  Memref.readAt_unit_zero (Elt F) cc0_stg1_0 z2 _ f
omit [FloatOps F] in
theorem write_keep (f w : kM.view.ty.Contents (Elt F)) :
    ((kM.access (Rect.unit (s := S2048x4) ![0, 0] S2048x4.size inb_S2048x4_S2048x4_0_0) : View sig .tc _ _ _)).write (Elt F) f w Finset.univ = w :=
  Memref.write_access_unit_zero_univ (Elt F) cc0_scratch0 z2 _ f w
omit [FloatOps F] in
theorem read_out (f : oM.view.ty.Contents (Elt F)) : oM.view.readAt (Elt F) oR.toLoadRect f = f :=
  Memref.readAt_unit_zero (Elt F) cc0_stg3_0 z2 _ f
omit [FloatOps F] in
theorem write_out (f w : oM.view.ty.Contents (Elt F)) : ((oM.access oR : View sig .tc _ _ _)).write (Elt F) f w Finset.univ = w :=
  Memref.write_access_unit_zero_univ (Elt F) cc0_stg3_0 z2 _ f w

section Body

variable (K : Dev nD × Fin 7 → ℕ)

abbrev WP (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-- A store of a computed part into slot `j` of the send buffer, before it the load of the slot that is not used. -/
theorem wp_fill (c : Dev nD) (j : Fin 3) (X : FVec F S512x1024 .f32) (w : (slotR j).shape.Idx → Elt F .f32)
    (hw : w = shapeCast S1x512x1024 X shapeCasts_S512x1024_S1x512x1024) {hx : (sM.access (slotR j)).Stores Finset.univ} {hm} {Q : PUnit → sProp 𝕄}
    {k : PUnit → Prog (TpuEff nD τ sig (Elt F) Λ₀ .tc) PUnit} :
    iprop(∃ f, sPts j c f) ⊢ iprop(((∃ f, ⌜(sSlot j).view.read (Elt F) f = X⌝ ∗ sPts j c f) -∗ WP c (k ⟨⟩) Q)
      -∗ WP c (.op (.store sM (slotR j) w Finset.univ hx hm) k) Q) := by
  subst hw
  iintro ⟨%f, Hs⟩ Hk
  unfold sPts
  iapply (wp_store 𝒱₀ (c : Thread nD τ) none Set.univ (m := sM) (r := slotR j) (Mk := Finset.univ) (S := (sSlot j).view.set)
    (by rw [sSlot_set]; exact Finset.Subset.refl _)) $$ Hs
  iintro Hs
  iapply Hk
  iexists _
  isplitr
  · ipureintro; exact read_stored j f X
  · iexact Hs

theorem wp_peek (c : Dev nD) (j : Fin 3) {hl} {Q : PUnit → sProp 𝕄} {k : ((slotR j).toLoadRect.shape.Idx → Elt F .f32) → Prog (TpuEff nD τ sig (Elt F) Λ₀ .tc) PUnit} :
    iprop(∃ f, sPts j c f) ⊢ iprop((∀ v, (∃ f, sPts j c f) -∗ WP c (k v) Q) -∗ WP c (.op (.load sM (slotR j).toLoadRect hl) k) Q) := by
  iintro ⟨%f, Hs⟩ Hk
  unfold sPts
  iapply (wp_load 𝒱₀ (c : Thread nD τ) none Set.univ (m := sM) (S := (sSlot j).view.set)
    (by rw [sSlot_set]; exact (View.set_slice _ _).symm.subset)) $$ Hs
  iintro Hs
  iapply Hk
  iexists f
  iexact Hs

/-- A load of slot `j` of the landing buffer. -/
theorem wp_take (c : Dev nD) (j : Fin 3) (X : FVec F S512x1024 .f32) {hl} {Q : PUnit → sProp 𝕄}
    {k : ((slotR j).toLoadRect.shape.Idx → Elt F .f32) → Prog (TpuEff nD τ sig (Elt F) Λ₀ .tc) PUnit} :
    iprop(∃ f, ⌜(cSlot j).view.read (Elt F) f = X⌝ ∗ cPts j c f)
      ⊢ iprop((∀ v, ⌜shapeCast S512x1024 v shapeCasts_S1x512x1024_S512x1024 = X⌝ -∗ (∃ f, cPts j c f) -∗ WP c (k v) Q)
        -∗ WP c (.op (.load cM (slotR j).toLoadRect hl) k) Q) := by
  iintro ⟨%f, %hf, Hs⟩ Hk
  unfold cPts
  iapply (wp_load 𝒱₀ (c : Thread nD τ) none Set.univ (m := cM) (S := (cSlot j).view.set)
    (by rw [cSlot_set]; exact (View.set_slice _ _).symm.subset)) $$ Hs
  iintro Hs
  iapply Hk
  · ipureintro; exact hf
  iexists f
  iexact Hs

/-- The tokens, the table and the experts' matrices, as the loads find them. -/
abbrev xHeld (c : Dev nD) : sProp 𝕄 := ((c : Thread nD τ).loc cc0_stg0_0) ↦{fullShare} (xstg m ρ c)
abbrev kHeld (c : Dev nD) : sProp 𝕄 := ((c : Thread nD τ).loc cc0_scratch0) ↦{fullShare} (keep m ρ c)
abbrev wHeld (c : Dev nD) : sProp 𝕄 := ((c : Thread nD τ).loc cc0_stg2_0) ↦{fullShare} (wstg m ρ c)

/-- The load of chunk `e`'s tokens, -/
theorem wp_x (c e : Dev nD) {o : Fin 2 → ℕ} (h : o = rowsAt e) {hb : ∀ a, o a + S512x512.size a ≤ S2048x512.size a} {hl} {Q : PUnit → sProp 𝕄}
    {k : Vec F S512x512 .f32 → Prog (TpuEff nD τ sig (Elt F) Λ₀ .tc) PUnit} :
    xHeld m ρ c ⊢ iprop((xHeld m ρ c -∗ WP c (k (xrows m ρ c e)) Q)
      -∗ WP c (.op (.load xM (Rect.unit (s := S2048x512) o S512x512.size hb).toLoadRect hl) k) Q) := by
  subst h
  exact wp_load 𝒱₀ (c : Thread nD τ) none Set.univ (m := xM) (Finset.subset_univ _)
/-- of its rows of the table, -/
theorem wp_k (c e : Dev nD) {o : Fin 2 → ℕ} (h : o = rowsAt e) {hb : ∀ a, o a + S512x4.size a ≤ S2048x4.size a} {hl} {Q : PUnit → sProp 𝕄}
    {k : Vec F S512x4 .f32 → Prog (TpuEff nD τ sig (Elt F) Λ₀ .tc) PUnit} :
    kHeld m ρ c ⊢ iprop((kHeld m ρ c -∗ WP c (k (krows m ρ c e)) Q)
      -∗ WP c (.op (.load kM (Rect.unit (s := S2048x4) o S512x4.size hb).toLoadRect hl) k) Q) := by
  subst h
  exact wp_load 𝒱₀ (c : Thread nD τ) none Set.univ (m := kM) (Finset.subset_univ _)
/-- of one expert's matrix. -/
theorem wp_w (c : Dev nD) (i : Fin 4) {hl} {Q : PUnit → sProp 𝕄} {k : Vec F S1x512x1024 .f32 → Prog (TpuEff nD τ sig (Elt F) Λ₀ .tc) PUnit} :
    wHeld m ρ c ⊢ iprop((wHeld m ρ c -∗ WP c (k (wexp m ρ c i)) Q) -∗ WP c (.op (.load wM (expR i).toLoadRect hl) k) Q) :=
  wp_load 𝒱₀ (c : Thread nD τ) none Set.univ (m := wM) (Finset.subset_univ _)

/-- The result's buffer: a load, and a store over all of it. -/
theorem wp_o (c : Dev nD) (f : oM.view.ty.Contents (Elt F)) {hl} {Q : PUnit → sProp 𝕄} {k : Vec F S512x1024 .f32 → Prog (TpuEff nD τ sig (Elt F) Λ₀ .tc) PUnit} :
    (((c : Thread nD τ).loc cc0_stg3_0) ↦{fullShare} f : sProp 𝕄)
      ⊢ iprop(((((c : Thread nD τ).loc cc0_stg3_0) ↦{fullShare} f) -∗ WP c (k f) Q) -∗ WP c (.op (.load oM oR.toLoadRect hl) k) Q) := by
  iintro H Hk
  iapply (wp_load 𝒱₀ (c : Thread nD τ) none Set.univ (m := oM) (Finset.subset_univ _)) $$ H
  iintro H
  rw [read_out]
  iapply Hk
  iexact H
theorem wp_oset (c : Dev nD) (f w v : oM.view.ty.Contents (Elt F)) (hw : w = v) {hx : (oM.access oR).Stores Finset.univ} {hm} {Q : PUnit → sProp 𝕄}
    {k : PUnit → Prog (TpuEff nD τ sig (Elt F) Λ₀ .tc) PUnit} :
    (((c : Thread nD τ).loc cc0_stg3_0) ↦{fullShare} f : sProp 𝕄)
      ⊢ iprop(((((c : Thread nD τ).loc cc0_stg3_0) ↦{fullShare} v) -∗ WP c (k ⟨⟩) Q) -∗ WP c (.op (.store oM oR w Finset.univ hx hm) k) Q) := by
  subst hw
  iintro H Hk
  iapply (wp_store 𝒱₀ (c : Thread nD τ) none Set.univ (m := oM) (r := oR) (Mk := Finset.univ) (Finset.subset_univ _)) $$ H
  iintro H
  rw [write_out]
  iapply Hk
  iexact H

/-- The load of the expert indices, and the table's store. -/
theorem wp_i (c : Dev nD) (f : iM.view.ty.Contents (Elt F)) {hl} {Q : PUnit → sProp 𝕄} {k : Vec F S2048x1 .i32 → Prog (TpuEff nD τ sig (Elt F) Λ₀ .tc) PUnit} :
    (((c : Thread nD τ).loc cc0_stg1_0) ↦{fullShare} f : sProp 𝕄)
      ⊢ iprop(((((c : Thread nD τ).loc cc0_stg1_0) ↦{fullShare} f) -∗ WP c (k f) Q)
        -∗ WP c (.op (.load iM (Rect.unit (s := S2048x1) ![0, 0] S2048x1.size inb_S2048x1_S2048x1_0_0).toLoadRect hl) k) Q) := by
  iintro H Hk
  iapply (wp_load 𝒱₀ (c : Thread nD τ) none Set.univ (m := iM) (Finset.subset_univ _)) $$ H
  iintro H
  rw [read_idx]
  iapply Hk
  iexact H
theorem wp_table (c : Dev nD) (f w : kM.view.ty.Contents (Elt F)) {hx} {hm} {Q : PUnit → sProp 𝕄}
    {k : PUnit → Prog (TpuEff nD τ sig (Elt F) Λ₀ .tc) PUnit} :
    (((c : Thread nD τ).loc cc0_scratch0) ↦{fullShare} f : sProp 𝕄)
      ⊢ iprop(((((c : Thread nD τ).loc cc0_scratch0) ↦{fullShare} w) -∗ WP c (k ⟨⟩) Q)
        -∗ WP c (.op (.store kM (Rect.unit (s := S2048x4) ![0, 0] S2048x4.size inb_S2048x4_S2048x4_0_0) w Finset.univ hx hm) k) Q) := by
  iintro H Hk
  iapply (wp_store 𝒱₀ (c : Thread nD τ) none Set.univ (m := kM) (r := Rect.unit (s := S2048x4) ![0, 0] S2048x4.size inb_S2048x4_S2048x4_0_0) (Mk := Finset.univ)
    (Finset.subset_univ _)) $$ H
  iintro H
  rw [write_keep]
  iapply Hk
  iexact H

def bodyPre (c : Dev nD) : sProp 𝕄 :=
  iprop((records m ρ K ∗ linear c ∗ credsOf c ∗ levAts L lv ∗ scratch c)
    ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ c ∗ (dats m ρ 0 c).owesAt () t0_0.succ
    ∗ stg c cc0_stg0_0 (xstg m ρ c) ∗ stg c cc0_stg1_0 (istg m ρ c) ∗ stg c cc0_stg2_0 (wstg m ρ c) ∗ stg c cc0_stg3_0 (outAt m ρ c))

set_option maxHeartbeats 4000000 in
set_option maxRecDepth 8000 in
/-- The body, from what a device starts with to its result. -/
theorem sound_body (c : Dev nD) (Kt : PUnit → sProp 𝕄) :
    iprop(bodyPre m ρ K c ∗ (bodyPost m ρ c -∗ Kt ⟨⟩))
      ⊢ WP c (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) Kt := by
  simp only [cc0_body_eq_skeleton, k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton, k0_part12_eq_skeleton]
  unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel
    k0_part11_skel k0_part12_skel
  simp only [semSignalWord, semWaitWord, Prog.lift, Prog.bind_op, Prog.bind_ret, Prog.pure_eq_ret, wp_deviceId]
  unfold bodyPre linear poss payToks credsOf scratch
  iintro ⟨⟨⟨#HR, ⟨⟨HaB, HaS0, HaS1, HaS2, HaR0, HaR1, HaR2⟩, ⟨HtB0, HtB1, HtB2⟩, ⟨HtS0, HtS1, HtS2⟩, ⟨HtR0, HtR1, HtR2⟩⟩,
      ⟨HcB, HcR0, HcR1, HcR2⟩, #Hlev, ⟨⟨%fk, Hkp⟩, ⟨%fs, Hs⟩, ⟨%fc, Hc⟩⟩⟩,
    Ho, ⟨%d0, %g0, %hg0, Hx⟩, ⟨%d1, %g1, %hg1, Hi⟩, ⟨%d2, %g2, %hg2, Hw⟩, ⟨%d3, %g3, %hg3, Hout⟩⟩, Hk⟩
  have hx : g0 = xstg m ρ c := by rw [hg0]; unfold Dat.before; rw [if_pos (fetch_in 0 (by decide) t0_0)]; rfl
  have hi : g1 = istg m ρ c := by rw [hg1]; unfold Dat.before; rw [if_pos (fetch_in 1 (by decide) t0_0)]; rfl
  have hw : g2 = wstg m ρ c := by rw [hg2]; unfold Dat.before; rw [if_pos (fetch_in 2 (by decide) t0_0)]; rfl
  subst hx hi hw
  unfold Dat.owesAt Pipeline.owesWithin
  icases Ho with ⟨%W, %hW, HO⟩
  rw [show (dats m ρ 0 c).owed t0_0.castSucc = OR c + owB c 1 + owB c 0 + owB c 2 from rfl]
  ihave Hs := (s_cut (F := F) c) $$ [Hs]
  · iexists fs; iexact Hs
  ihave Hc := (c_cut (F := F) c) $$ [Hc]
  · iexists fc; iexact Hc
  icases Hs with ⟨⟨Hs0, Hs1, Hs2⟩, Hsr⟩
  icases Hc with ⟨⟨Hc0, Hc1, Hc2⟩, Hcr⟩
  -- the three signals
  iapply (wp_hand m ρ K c _ 2 (dev1_eq c) (OR c + owB c 1 + owB c 0) W) $$ [HO HtB2 Hc2]
  · isplitr; · iexact HR
    isplitl [HO]; · iexact HO
    isplitl [HtB2] <;> iassumption
  iintro HO
  iapply (wp_hand m ρ K c _ 0 (dev2_eq c) (OR c + owB c 1) W) $$ [HO HtB0 Hc0]
  · isplitr; · iexact HR
    isplitl [HO]; · iexact HO
    isplitl [HtB0] <;> iassumption
  iintro HO
  iapply (wp_hand m ρ K c _ 1 (dev3_eq c) (OR c) W) $$ [HO HtB1 Hc1]
  · isplitr; · iexact HR
    isplitl [HO]; · iexact HO
    isplitl [HtB1] <;> iassumption
  iintro HO
  -- the barrier wait
  iapply (wp_barrier m ρ K c W) $$ [HO HcB HaB]
  · isplitr; · iexact HR
    isplitr; · iexact Hlev
    isplitl [HO]; · iexact HO
    isplitl [HcB] <;> iassumption
  iintro ⟨HO, HzB, Hd0, Hd1, Hd2⟩
  -- the table
  iapply (wp_i c (istg m ρ c)) $$ Hi; iintro Hi
  iapply (wp_load 𝒱₀ (c : Thread nD τ) none Set.univ (m := kM) (Finset.subset_univ _)) $$ Hkp; iintro Hkp
  iapply (wp_table c _ (keep m ρ c)) $$ Hkp; iintro Hkp
  -- the part sent first, two devices on
  iapply (wp_x m ρ c (dst 0 c) (off1_0 c)) $$ Hx; iintro Hx
  iapply (wp_k m ρ c (dst 0 c) (off2_0 c)) $$ Hkp; iintro Hkp
  iapply (wp_w m ρ c 0) $$ Hw; iintro Hw
  iapply (wp_w m ρ c 1) $$ Hw; iintro Hw
  iapply (wp_w m ρ c 2) $$ Hw; iintro Hw
  iapply (wp_w m ρ c 3) $$ Hw; iintro Hw
  iapply (wp_peek c 0) $$ Hs0; iintro %v0 Hs0
  iapply (wp_fill c 0 (chunkOf m ρ c (dst 0 c)) _ (pay8_eq _ _ _ _ _ _)) $$ Hs0
  iintro ⟨%f0, %hf0, Hs0⟩
  iapply (wp_send_part m ρ K c _ 0 (dev4_eq c) (0 + owR c 2 + owR c 1) (insert (SemLoc.reg barS, ()) W) f0 hf0) $$ [HO HtS0 HtR0 Hs0 Hd0]
  · isplitr; · iexact HR
    isplitl [HO]; · unfold OR; iexact HO
    isplitl [HtS0]; · iexact HtS0
    isplitl [HtR0]; · iexact HtR0
    isplitl [Hs0] <;> iassumption
  iintro ⟨HcS0, HO⟩
  -- the part sent second, one device on
  iapply (wp_x m ρ c (dst 1 c) (off1_1 c)) $$ Hx; iintro Hx
  iapply (wp_k m ρ c (dst 1 c) (off2_1 c)) $$ Hkp; iintro Hkp
  iapply (wp_w m ρ c 0) $$ Hw; iintro Hw
  iapply (wp_w m ρ c 1) $$ Hw; iintro Hw
  iapply (wp_w m ρ c 2) $$ Hw; iintro Hw
  iapply (wp_w m ρ c 3) $$ Hw; iintro Hw
  iapply (wp_peek c 1) $$ Hs1; iintro %v1 Hs1
  iapply (wp_fill c 1 (chunkOf m ρ c (dst 1 c)) _ (pay12_eq _ _ _ _ _ _)) $$ Hs1
  iintro ⟨%f1, %hf1, Hs1⟩
  iapply (wp_send_part m ρ K c _ 1 (dev5_eq c) (0 + owR c 2) (insert (SemLoc.reg barS, ()) W) f1 hf1) $$ [HO HtS1 HtR1 Hs1 Hd1]
  · isplitr; · iexact HR
    isplitl [HO]; · iexact HO
    isplitl [HtS1]; · iexact HtS1
    isplitl [HtR1]; · iexact HtR1
    isplitl [Hs1] <;> iassumption
  iintro ⟨HcS1, HO⟩
  -- the part sent third, three devices on
  iapply (wp_x m ρ c (dst 2 c) (off1_2 c)) $$ Hx; iintro Hx
  iapply (wp_k m ρ c (dst 2 c) (off2_2 c)) $$ Hkp; iintro Hkp
  iapply (wp_w m ρ c 0) $$ Hw; iintro Hw
  iapply (wp_w m ρ c 1) $$ Hw; iintro Hw
  iapply (wp_w m ρ c 2) $$ Hw; iintro Hw
  iapply (wp_w m ρ c 3) $$ Hw; iintro Hw
  iapply (wp_peek c 2) $$ Hs2; iintro %v2 Hs2
  iapply (wp_fill c 2 (chunkOf m ρ c (dst 2 c)) _ (pay16_eq _ _ _ _ _ _)) $$ Hs2
  iintro ⟨%f2, %hf2, Hs2⟩
  iapply (wp_send_part m ρ K c _ 2 (dev6_eq c) 0 (insert (SemLoc.reg barS, ()) W) f2 hf2) $$ [HO HtS2 HtR2 Hs2 Hd2]
  · isplitr; · iexact HR
    isplitl [HO]; · iexact HO
    isplitl [HtS2]; · iexact HtS2
    isplitl [HtR2]; · iexact HtR2
    isplitl [Hs2] <;> iassumption
  iintro ⟨HcS2, HO⟩
  -- the device's own part
  iapply (wp_x m ρ c c (k0_off3_eq c)) $$ Hx; iintro Hx
  iapply (wp_k m ρ c c (k0_off4_eq c)) $$ Hkp; iintro Hkp
  iapply (wp_w m ρ c 0) $$ Hw; iintro Hw
  iapply (wp_w m ρ c 1) $$ Hw; iintro Hw
  iapply (wp_w m ρ c 2) $$ Hw; iintro Hw
  iapply (wp_w m ρ c 3) $$ Hw; iintro Hw
  iapply (wp_o c _) $$ Hout; iintro Hout
  iapply (wp_oset c _ _ (chunkOf m ρ c c) rfl) $$ Hout; iintro Hout
  -- the three arrivals, slots 1, 2, 0
  iapply (wp_arrive m ρ K c 1 (insert (SemLoc.reg barS, ()) W)) $$ [HO HcR1 HaR1]
  · isplitr; · iexact HR
    isplitl [HO]; · iexact HO
    isplitl [HcR1] <;> iassumption
  iintro ⟨HO, HzR1, Hc1⟩
  unfold recvPay
  iapply (wp_o c _) $$ Hout; iintro Hout
  iapply (wp_take c 1 _) $$ Hc1; iintro %p1 %hp1 Hc1
  iapply (wp_o c _) $$ Hout; iintro Hout
  iapply (wp_oset c _ _ (addf (chunkOf m ρ c c) (chunkOf m ρ (src 1 c) c)) ((pay21_eq _ _).trans (by rw [hp1]))) $$ Hout; iintro Hout
  iapply (wp_arrive m ρ K c 2 (insert (SemLoc.dma (recvS 1), ()) (insert (SemLoc.reg barS, ()) W))) $$ [HO HcR2 HaR2]
  · isplitr; · iexact HR
    isplitl [HO]; · iexact HO
    isplitl [HcR2] <;> iassumption
  iintro ⟨HO, HzR2, Hc2⟩
  unfold recvPay
  iapply (wp_o c _) $$ Hout; iintro Hout
  iapply (wp_take c 2 _) $$ Hc2; iintro %p2 %hp2 Hc2
  iapply (wp_o c _) $$ Hout; iintro Hout
  iapply (wp_oset c _ _ (addf (addf (chunkOf m ρ c c) (chunkOf m ρ (src 1 c) c)) (chunkOf m ρ (src 2 c) c)) ((pay22_eq _ _).trans (by rw [hp2]))) $$ Hout; iintro Hout
  iapply (wp_arrive m ρ K c 0 (insert (SemLoc.dma (recvS 2), ()) (insert (SemLoc.dma (recvS 1), ()) (insert (SemLoc.reg barS, ()) W)))) $$ [HO HcR0 HaR0]
  · isplitr; · iexact HR
    isplitl [HO]; · iexact HO
    isplitl [HcR0] <;> iassumption
  iintro ⟨HO, HzR0, Hc0⟩
  unfold recvPay
  iapply (wp_o c _) $$ Hout; iintro Hout
  iapply (wp_take c 0 _) $$ Hc0; iintro %p0 %hp0 Hc0
  iapply (wp_o c _) $$ Hout; iintro Hout
  iapply (wp_oset c _ _ (outAt m ρ c) ((pay23_eq _ _).trans (by rw [hp0]; rfl))) $$ Hout; iintro Hout
  -- the three sends have left
  iapply (wp_left m ρ K c 0 (insert (SemLoc.dma (recvS 0), ()) (insert (SemLoc.dma (recvS 2), ()) (insert (SemLoc.dma (recvS 1), ()) (insert (SemLoc.reg barS, ()) W))))) $$ [HO HcS0 HaS0]
  · isplitr; · iexact HR
    isplitl [HO]; · iexact HO
    isplitl [HcS0] <;> iassumption
  iintro ⟨HO, HzS0, Hs0⟩
  iapply (wp_left m ρ K c 1 (insert (SemLoc.dma (sendS 0), ()) (insert (SemLoc.dma (recvS 0), ()) (insert (SemLoc.dma (recvS 2), ()) (insert (SemLoc.dma (recvS 1), ()) (insert (SemLoc.reg barS, ()) W)))))) $$ [HO HcS1 HaS1]
  · isplitr; · iexact HR
    isplitl [HO]; · iexact HO
    isplitl [HcS1] <;> iassumption
  iintro ⟨HO, HzS1, Hs1⟩
  iapply (wp_left m ρ K c 2 (insert (SemLoc.dma (sendS 1), ()) (insert (SemLoc.dma (sendS 0), ()) (insert (SemLoc.dma (recvS 0), ()) (insert (SemLoc.dma (recvS 2), ()) (insert (SemLoc.dma (recvS 1), ()) (insert (SemLoc.reg barS, ()) W))))))) $$ [HO HcS2 HaS2]
  · isplitr; · iexact HR
    isplitl [HO]; · iexact HO
    isplitl [HcS2] <;> iassumption
  iintro ⟨HO, HzS2, Hs2⟩
  rw [wp_ret]; imodintro
  iapply Hk
  unfold sendPay bodyPost Φ₁ scratch closed Dat.owesAt Pipeline.owesWithin
  rw [show (dats m ρ 0 c).owed t0_0.succ = 0 from rfl]
  isplitl [Hkp Hs0 Hs1 Hs2 Hsr Hc0 Hc1 Hc2 Hcr HzB HzS0 HzS1 HzS2 HzR0 HzR1 HzR2]
  · isplitl [Hkp Hs0 Hs1 Hs2 Hsr Hc0 Hc1 Hc2 Hcr]
    · isplitl [Hkp]; · iexists (keep m ρ c); iexact Hkp
      isplitl [Hs0 Hs1 Hs2 Hsr]
      · iapply (s_join c fs)
        isplitl [Hs0 Hs1 Hs2]
        · isplitl [Hs0]; · iexact Hs0
          isplitl [Hs1] <;> iassumption
        iexact Hsr
      · iapply (c_join c fc)
        isplitl [Hc0 Hc1 Hc2]
        · isplitl [Hc0]; · iexact Hc0
          isplitl [Hc1] <;> iassumption
        iexact Hcr
    isplitl [HzB]; · iexact HzB
    isplitl [HzS0]; · iexact HzS0
    isplitl [HzS1]; · iexact HzS1
    isplitl [HzS2]; · iexact HzS2
    isplitl [HzR0]; · iexact HzR0
    isplitl [HzR1] <;> iassumption
  isplitl [HO]
  · iexists (insert (SemLoc.dma (sendS 2), ()) (insert (SemLoc.dma (sendS 1), ()) (insert (SemLoc.dma (sendS 0), ()) (insert (SemLoc.dma (recvS 0), ()) (insert (SemLoc.dma (recvS 2), ()) (insert (SemLoc.dma (recvS 1), ()) (insert (SemLoc.reg barS, ()) W)))))))
    isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr; · (ipureintro; rfl)
  iexact Hout

set_option maxRecDepth 4000 in
def bodyPre' (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

set_option maxRecDepth 4000 in
/-- The body does what the pipeline asks of it. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ WP c (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) (fun _ => bodyPost m ρ c)
  unfold bodyPre' Φ₀ start
  iintro ⟨⟨⟨⟨%K, HR, Hl⟩, Hcr, Hlev⟩, Hscr⟩, Hrest⟩
  iapply (sound_body m ρ K c fun _ => bodyPost m ρ c)
  unfold bodyPre
  isplitr []
  · isplitl [HR Hl Hcr Hlev Hscr]
    · isplitl [HR]; · iexact HR
      isplitl [Hl]; · iexact Hl
      isplitl [Hcr]; · iexact Hcr
      isplitl [Hlev] <;> iassumption
    iexact Hrest
  · iintro H; iexact H

end Body

end Cert.Moe

end
-- ==== Proof.Run.lean ====
/-
# The run

The launch: the seven cells of every device are given their invariants, the tokens are dealt to the devices that pay
them, and each device gets the credit the others owe it. With the body's proof this gives the run of the whole program.
-/
module

public import proofs.«01_k».proof.Proof.Exec
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- All cells of all devices. -/
def allCells : Finset (GSem nD τ sig) := Finset.univ.map ⟨kcell, kcell_injective⟩

/-- A device's cells have nine duties: three at the barrier, one at each transfer semaphore. -/
abbrev tokCell : Fin 9 → Fin 7 := ![0, 0, 0, 1, 2, 3, 4, 5, 6]
abbrev tokDuty : Fin 9 → Fin 3 := ![0, 1, 2, 0, 0, 0, 0, 0, 0]
abbrev tokOf (ci : Dev nD × Fin 9) : GSem nD τ sig × ℕ × Fin 3 := (kcell (ci.1, tokCell ci.2), 0, tokDuty ci.2)
theorem tok_pair_injective : ∀ i i' : Fin 9, tokCell i = tokCell i' → tokDuty i = tokDuty i' → i = i' := by decide
theorem tokOf_injective : Function.Injective (tokOf : Dev nD × Fin 9 → GSem nD τ sig × ℕ × Fin 3) := by
  rintro ⟨c, i⟩ ⟨c', i'⟩ h
  have h1 := kcell_injective (congrArg Prod.fst h)
  have h2 : tokDuty i = tokDuty i' := congrArg (fun x : GSem nD τ sig × ℕ × Fin 3 => x.2.2) h
  have h3 : c = c' := congrArg Prod.fst h1
  have h4 : i = i' := tok_pair_injective i i' (congrArg Prod.snd h1) h2
  rw [h3, h4]
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- The tokens of a device's own cells. -/
def toks (c : Dev nD) : sProp 𝕄 :=
  iprop((dutyTok ER (barCell c) 0 0 ∗ dutyTok ER (barCell c) 0 1 ∗ dutyTok ER (barCell c) 0 2)
    ∗ (dutyTok ER (sendCell 0 c) 0 0 ∗ dutyTok ER (sendCell 1 c) 0 0 ∗ dutyTok ER (sendCell 2 c) 0 0)
    ∗ (dutyTok ER (recvCell 0 c) 0 0 ∗ dutyTok ER (recvCell 1 c) 0 0 ∗ dutyTok ER (recvCell 2 c) 0 0))

omit [FloatOps F] in
theorem sep_regroup (P Q R : sProp 𝕄) : iprop((P ∗ Q) ∗ R) = iprop(P ∗ Q ∗ R) :=
  equiv_iff.mp ⟨BI.sep_assoc, BI.sep_assoc'⟩

omit [FloatOps F] in
theorem toks_eq (c : Dev nD) : (bigSep Finset.univ fun i : Fin 9 => (dutyTok ER (tokOf (c, i)).1 (tokOf (c, i)).2.1 (tokOf (c, i)).2.2 : sProp 𝕄)) = toks c := by
  rw [bigSep_univ_eq_bigSepL [0, 1, 2, 3, 4, 5, 6, 7, 8] (by decide) (by decide)]
  unfold toks
  simp only [sep_regroup]
  rfl

/-- What the launch deals device `c`. -/
def G (c : Dev nD) : sProp 𝕄 :=
  iprop((bigSep Finset.univ fun k : Fin 7 => roundState ER (rd m ρ) (kcell (c, k)) 0)
    ∗ (bigSep Finset.univ fun k : Fin 7 => iprop(atPos ER (kcell (c, k)) 0 ∅ 0 ∗ reached ER (kcell (c, k)) 0)) ∗ toks c)

/-- What the devices together make of it. -/
def G' (c : Dev nD) : sProp 𝕄 := iprop(∃ K, records m ρ K ∗ linear c)

omit [FloatOps F] in
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The launch element is every device's `G`. -/
theorem deal : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 7 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0
        ∗ semVal (recvCell 0 c) 0 ∗ semVal (recvCell 1 c) 0 ∗ semVal (recvCell 2 c) 0) := by
  rw [Pipeline.ownSems0_eq_of_list c osem [0, 1, 2, 3, 4, 5] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The seven counters at zero are the kernel's own six and the barrier's. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_seven]
  iintro ⟨HO, HB⟩
  isplitl [HB]; · iexact HB
  iexact HO

/-- Each device turns its counters and round states into invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A token of every device's barrier duty `j` is one for the receiver of its send `j` to pay; -/
theorem deal_bar (j : Fin 3) : (bigSep Finset.univ fun c : Dev nD => (dutyTok ER (barCell c) 0 j : sProp 𝕄))
    = bigSep Finset.univ fun c : Dev nD => dutyTok ER (barCell (src j c)) 0 j :=
  bigSep_univ_equiv (around j).symm (fun c : Dev nD => (dutyTok ER (barCell c) 0 j : sProp 𝕄))
omit [FloatOps F] in
/-- a token of its receive cell `j` is one for that arrival's sender. -/
theorem deal_recv (j : Fin 3) : (bigSep Finset.univ fun c : Dev nD => (dutyTok ER (recvCell j c) 0 0 : sProp 𝕄))
    = bigSep Finset.univ fun c : Dev nD => dutyTok ER (recvCell j (dst j c)) 0 0 :=
  bigSep_univ_equiv (around j) (fun c : Dev nD => (dutyTok ER (recvCell j c) 0 0 : sProp 𝕄))

omit [FloatOps F] in
theorem toks_dealt : (bigSep Finset.univ fun c : Dev nD => (toks c : sProp 𝕄)) = bigSep Finset.univ fun c : Dev nD => payToks c := by
  unfold toks payToks
  simp only [bigSep_sep']
  rw [deal_bar 0, deal_bar 1, deal_bar 2, deal_recv 0, deal_recv 1, deal_recv 2]

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants' names are gathered, and every device gets all the records with its own positions and tokens. -/
theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (rd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄)), toks_dealt]
  iintro ⟨HI, ⟨Hat, #HR⟩, Htok⟩
  ihave HK := (BI.bigSep_exists_pi Finset.univ (fun (ck : Dev nD × Fin 7) (κ : ℕ) => (cellInv ER (rd m ρ) κ (kcell ck) : sProp 𝕄))) $$ HI
  icases HK with ⟨%K, #HI⟩
  iapply (bigSep_with (R := records m ρ K) (Φ := fun c => linear c) fun c _ => show iprop(records m ρ K ∗ linear c) ⊢ G' m ρ c from by
    unfold G'; iintro H; iexists K; iexact H)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear poss; rw [bigSep_seven])))
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_eq_iff {a b : Dev nD} : barCell a = barCell b ↔ a = b :=
  ⟨fun h => congrArg (fun g : GSem nD τ sig => g.1.1) h, fun h => h ▸ rfl⟩
theorem rIx_injective : Function.Injective rIx := by decide
theorem recv_eq_iff {j j' : Fin 3} {a b : Dev nD} : recvCell j a = recvCell j' b ↔ j = j' ∧ a = b := by
  rw [← kcell_r, ← kcell_r]
  constructor
  · intro h
    have h1 := kcell_injective h
    exact ⟨rIx_injective (congrArg Prod.snd h1), congrArg Prod.fst h1⟩
  · rintro ⟨rfl, rfl⟩; rfl
theorem bar_ne_recv (a b : Dev nD) (j : Fin 3) : barCell a ≠ recvCell j b := fun h => by cases congrArg Prod.snd h

theorem eq_dst_iff {j : Fin 3} {c d : Dev nD} : c = src j d ↔ d = dst j c :=
  ⟨fun h => by rw [h, dst_src], fun h => by rw [h, src_dst]⟩
theorem eq_src_iff {j : Fin 3} {c d : Dev nD} : c = dst j d ↔ d = src j c :=
  ⟨fun h => by rw [h, src_dst], fun h => by rw [h, dst_src]⟩

theorem owB_bar (d c : Dev nD) (j : Fin 3) : owB d j (barCell c) () = if d = dst j c then 1 else 0 := by
  rw [tallyAt_apply]
  exact if_congr ⟨fun h => eq_dst_iff.1 (bar_eq_iff.1 h.1), fun h => ⟨bar_eq_iff.2 (eq_dst_iff.2 h), rfl⟩⟩ rfl rfl
theorem owB_recv (d c : Dev nD) (j j' : Fin 3) : owB d j (recvCell j' c) () = 0 := by
  rw [tallyAt_apply]; exact if_neg fun h => bar_ne_recv _ _ _ h.1.symm
theorem owR_bar (d c : Dev nD) (j : Fin 3) : owR d j (barCell c) () = 0 := by
  rw [tallyAt_apply]; exact if_neg fun h => bar_ne_recv _ _ _ h.1
theorem owR_recv (d c : Dev nD) (j j' : Fin 3) : owR d j (recvCell j' c) () = if j' = j ∧ d = src j c then N else 0 := by
  rw [tallyAt_apply]
  exact if_congr ⟨fun h => ⟨(recv_eq_iff.1 h.1).1, eq_src_iff.1 (recv_eq_iff.1 h.1).2⟩, fun h => ⟨recv_eq_iff.2 ⟨h.1, eq_src_iff.2 h.2⟩, rfl⟩⟩ rfl rfl

theorem owed_bar (d c : Dev nD) : O₀ d (barCell c) () = (if d = dst 1 c then 1 else 0) + (if d = dst 0 c then 1 else 0) + (if d = dst 2 c then 1 else 0) := by
  have h : O₀ d (barCell c) () = 0 + owR d 2 (barCell c) () + owR d 1 (barCell c) () + owR d 0 (barCell c) ()
      + owB d 1 (barCell c) () + owB d 0 (barCell c) () + owB d 2 (barCell c) () := rfl
  rw [h, owR_bar, owR_bar, owR_bar, owB_bar, owB_bar, owB_bar]
  omega
theorem owed_recv (d c : Dev nD) (j : Fin 3) : O₀ d (recvCell j c) () = if d = src j c then N else 0 := by
  have h : O₀ d (recvCell j c) () = 0 + owR d 2 (recvCell j c) () + owR d 1 (recvCell j c) () + owR d 0 (recvCell j c) ()
      + owB d 1 (recvCell j c) () + owB d 0 (recvCell j c) () + owB d 2 (recvCell j c) () := rfl
  rw [h, owR_recv, owR_recv, owR_recv, owB_recv, owB_recv, owB_recv]
  fin_cases j
  · simp
  · simp
  · simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (dst 0 c) fun _ => 1, Finset.sum_ite_eq' Finset.univ (dst 1 c) fun _ => 1, Finset.sum_ite_eq' Finset.univ (dst 2 c) fun _ => 1,
    if_pos (Finset.mem_univ _), if_pos (Finset.mem_univ _), if_pos (Finset.mem_univ _)]
theorem launch_recv (c : Dev nD) (j : Fin 3) :
    tallyOn (recvCell j c) (launchCredit (Pipeline.owing O₀) 0 (recvCell j c)) = (tallyAt (recvCell j c) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (src j c) fun _ => N,
    if_pos (Finset.mem_univ _)]

omit [FloatOps F] in
theorem creds (c : Dev nD) : (Pipeline.launchCred O₀ c : sProp 𝕄) ⊢ credsOf c := by
  unfold Pipeline.launchCred credsOf
  rw [← launch_bar, ← launch_recv, ← launch_recv, ← launch_recv]
  refine (BI.bigSep_subset (t := [SemLoc.reg barS, .dma (recvS 0), .dma (recvS 1), .dma (recvS 2)].toFinset) (Finset.subset_univ _)).trans ?_
  rw [bigSep_eq_bigSepL_of_eq [SemLoc.reg barS, .dma (recvS 0), .dma (recvS 1), .dma (recvS 2)] rfl (by decide)]
  exact BI.Entails.refl _

/-! ## The program's run -/

/-- The routing weights, which the kernel is handed and does not touch. -/
def wtHeld (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ wtHeld m c) := by
  rw [Pipeline.unscopedRestP_none, unscopedRest0_eq]
  iintro ⟨Hw, Hlev, Hcr, -, HG⟩
  ihave Hc := (creds (F := F) c) $$ Hcr
  imodintro
  unfold start G' wtHeld
  isplitr [Hw]
  · isplitl [HG]; · iexact HG
    isplitl [Hc]; · iexact Hc
    iexact Hlev
  · iexact Hw

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch closed
  iintro ⟨Hr, HzB, Hz⟩
  isplitl [HzB]; · iexact HzB
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- A window's array after the run, and what the run establishes: every window's array holds that, and the routing
    weights are unchanged. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- From any memory with zero counters every fair execution of the four devices ends, each array as computed, the routing
    weights unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := glob m ρ)
    (hA := fun _ _ => rfl) (hpf := fun _ k => k.elim0)
    (X := start m ρ) (Y := fun c => unscopedSems0 c) (Z := wtHeld m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold wtHeld
      iintro ⟨Hu, Hw, HSI⟩
      ihave %hw := (SI_pointsTo_agree (st := s')) $$ [HSI Hw]
      · isplitl [HSI] <;> iassumption
      imod (Pipeline.unscopedSems0_read (X := unscopedSems0 c) (c := c) fupd_intro s') $$ [Hu HSI] with ⟨%hs, HSI⟩
      · isplitl [Hu] <;> iassumption
      imodintro
      isplitr
      · ipureintro; exact ⟨hs, funext fun i => hw i (Finset.mem_univ i)⟩
      iexact HSI)
    (hQ := fun _ h hs => ⟨fun c => ⟨(h c).1, (h c).2.2.2⟩, sem_eq_zero hs fun c => (h c).2.2.1⟩)

end Cert.Moe

end
-- ==== Proof.Frames.lean ====
/-
# The frames, and what the run leaves in the result

The inputs end unchanged; the result array of device `c` ends at `outAt c`. Both kernel programs are the same text, so
one run serves the two frames.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Pipeline.ValueKit

@[expose] public section

noncomputable section

namespace Cert.Moe

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- An input array ends as it began. -/
theorem finalA_in (c : Dev nD) (w : Fin cfg0.W) (hw : (cfg0.win w).isOut = false) : finalA m ρ c w = m ((cfg0.win w).arr.view.loc (c : Thread nD τ)) :=
  (dats m ρ 0 c).arrAt_in w hw _

/-- The run ends with every argument unchanged and every counter at zero. -/
theorem run_args : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun _ h => ⟨fun c => ⟨((h.1 c).1 0).trans (finalA_in m ρ c 0 rfl), (h.1 c).2,
    ((h.1 c).1 1).trans (finalA_in m ρ c 1 rfl), ((h.1 c).1 2).trans (finalA_in m ρ c 2 rfl)⟩, h.2⟩) (run_main m ρ)

/-- The result array ends at what the body left in its staging buffer. -/
theorem finalA_out (c : Dev nD) : finalA m ρ c (3 : Fin 4) = outAt m ρ c := by
  refine (dats m ρ 0 c).arrAt_eq_of_after_last (3 : Fin 4) t0_0 (by decide +kernel) (outAt m ρ c) fun j => ?_
  rfl

/-- The frame of the kernel over the extended reals. -/
theorem frame_kernelIdeal : Cert.quiescent_KernelIdeal := fun m ρ _ => run_args (F := Ideal) m ρ

/-- The two kernel programs run one table of functions. -/
theorem defs_same : Cert.Kernel.defs (F := Bits) = Cert.KernelIdeal.defs (F := Bits) := by
  refine congrArg (Pipeline.defs (Cert.KernelIdeal.pcfgs (F := Bits))) (congrArg Defs.onTc (funext fun l => ?_))
  match l with
  | ⟨0, _⟩ => rfl

/-- The frame of the kernel: the same run, over float words. -/
theorem frame_kernel : Cert.quiescent_Kernel := fun m ρ _ =>
  (congrArg (fun D => θ_run D (onTc (τ := Cert.KernelIdeal.τ) (Cert.KernelIdeal.main (F := Bits))) ⟨m, fun _ => 0, ρ⟩ _) defs_same).mpr
    (run_args (F := Bits) m ρ)

/-- The reference's frame: its run, and that it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Keep.lean ====
/-
# The table of kept tokens

For its four experts a device builds a 2048 × 4 table: entry `(i, k)` is one when token `i` is routed to the device's
`k`-th expert and fewer than 102 earlier tokens are routed there too, and zero otherwise. It finds the number of
tokens up to `i` with that expert by eleven shift-and-add steps: after the step of shift `s` an entry counts the last
`2 s` tokens. Counts are natural numbers read as extended reals, so each step is exact.
-/
module

public import proofs.«01_k».proof.Proof.Cells
public import Idealize.ShloMosaic.Lib.Pointwise

@[expose] public section

noncomputable section

namespace Cert.Moe

open Cert.KernelIdeal Cert.KernelIdeal.Gen
open Idealize.ShloMosaic

/-! ## Counting in a window -/

/-- How many of the last `w` numbers up to `i` satisfy `p`. -/
def win (p : Nat → Prop) [DecidablePred p] (w i : Nat) : Nat := Nat.count p (i + 1) - Nat.count p (i + 1 - w)

section Win
variable (p : Nat → Prop) [DecidablePred p]

/-- A window of one holds the number itself or nothing. -/
theorem win_one (i : Nat) : win p 1 i = if p i then 1 else 0 := by
  unfold win
  rw [Nat.add_sub_cancel, Nat.count_succ]
  omega

/-- A window that reaches past the first number counts every number up to `i`. -/
theorem win_all (w i : Nat) (h : i < w) : win p w i = Nat.count p (i + 1) := by
  unfold win
  rw [Nat.sub_eq_zero_of_le (by omega : i + 1 ≤ w), Nat.count_zero, Nat.sub_zero]

/-- A doubled window is the window and the one before it. -/
theorem win_double (w i : Nat) : win p (w + w) i = win p w i + if i < w then 0 else win p w (i - w) := by
  unfold win
  by_cases h : i < w
  · rw [if_pos h, Nat.sub_eq_zero_of_le (by omega : i + 1 ≤ w + w), Nat.sub_eq_zero_of_le (by omega : i + 1 ≤ w)]
    omega
  · have e1 : i - w + 1 = i + 1 - w := by omega
    have e2 : i + 1 - (w + w) = i + 1 - w - w := by omega
    have m1 : Nat.count p (i + 1 - w) ≤ Nat.count p (i + 1) := Nat.count_monotone p (by omega)
    have m2 : Nat.count p (i + 1 - w - w) ≤ Nat.count p (i + 1 - w) := Nat.count_monotone p (by omega)
    rw [if_neg h, e1, e2]
    omega

end Win

/-! ## One shift-and-add step -/

/-- The rows of a table moved down by `s`, with `z` above them. -/
theorem shift_apply {s n : Nat} (z : EReal) (v : FVec Ideal S2048x4 .f32) (hs : s + n = 2048)
    (hsl : S2048x4.Slices ![0, 0] ⟨2, ![n, 4]⟩) (hc : Shape.Concatenates [⟨2, ![s, 4]⟩, ⟨2, ![n, 4]⟩] S2048x4 0)
    (i : Fin 2048) (k : Fin 4) :
    concatenate S2048x4 0 [⟨⟨2, ![s, 4]⟩, broadcast ⟨2, ![s, 4]⟩ z⟩, ⟨⟨2, ![n, 4]⟩, extractStridedSlice ⟨2, ![n, 4]⟩ ![0, 0] v hsl⟩] hc
        (ix2 i k)
      = if i.val < s then z else v (ix2 (⟨i.val - s, by omega⟩ : Fin 2048) k) := by
  refine (concatenate_pair_apply (0 : Fin S2048x4.rank) _ _ hc (ix2 i k)).trans ?_
  by_cases h : i.val < s
  · rw [if_pos h]
    exact (dif_pos h).trans rfl
  · rw [if_neg h]
    refine (dif_neg h).trans ((Pointwise.extractStridedSlice_apply _ _ _ _).trans ?_)
    refine congrArg v (funext fun a => Fin.ext ?_)
    match a with
    | ⟨0, _⟩ => exact Nat.zero_add _
    | ⟨1, _⟩ => exact Nat.zero_add _

/-- A table whose entry `(i, k)` counts the last `w` tokens up to `i` that satisfy `p k`. -/
def Counts (p : Fin 4 → Nat → Prop) [∀ k, DecidablePred (p k)] (w : Nat) (v : FVec Ideal S2048x4 .f32) : Prop :=
  ∀ (i : Fin 2048) (k : Fin 4), v (ix2 i k) = ((win (p k) w i.val : Nat) : EReal)

/-- A table added to itself moved down by `s`, with zeros above. -/
def down (s n : Nat) (v : FVec Ideal S2048x4 .f32) (hsl : S2048x4.Slices ![0, 0] ⟨2, ![n, 4]⟩)
    (hc : Shape.Concatenates [⟨2, ![s, 4]⟩, ⟨2, ![n, 4]⟩] S2048x4 0) : FVec Ideal S2048x4 .f32 :=
  addf v (concatenate S2048x4 0 [⟨⟨2, ![s, 4]⟩, broadcast ⟨2, ![s, 4]⟩ (Scalar.ofBits (F := Ideal) .f32 0x00000000#32)⟩,
    ⟨⟨2, ![n, 4]⟩, extractStridedSlice ⟨2, ![n, 4]⟩ ![0, 0] v hsl⟩] hc)

/-- Adding to a table that counts windows of `s` itself moved down by `s` gives one that counts windows of `2 s`. -/
theorem Counts.step {p : Fin 4 → Nat → Prop} [∀ k, DecidablePred (p k)] {s n : Nat} {v : FVec Ideal S2048x4 .f32} (hv : Counts p s v)
    (t : Nat) (ht : s + s = t) (hs : s + n = 2048) (hsl : S2048x4.Slices ![0, 0] ⟨2, ![n, 4]⟩)
    (hc : Shape.Concatenates [⟨2, ![s, 4]⟩, ⟨2, ![n, 4]⟩] S2048x4 0) : Counts p t (down s n v hsl hc) := by
  subst ht
  intro i k
  refine (congrArg (v (ix2 i k) + ·) (shift_apply _ v hs hsl hc i k)).trans ?_
  rw [win_double, hv i k]
  by_cases h : i.val < s
  · rw [if_pos h, if_pos h, Nat.add_zero]
    exact (congrArg (_ + ·) (Ideal.ofBits_zero .f32)).trans (add_zero _)
  · rw [if_neg h, if_neg h, hv, Nat.cast_add]

/-! ## The table -/

/-- The expert token `j` is routed to, for a natural number `j`. -/
def tok (idx : Vec Ideal S2048x1 .i32) (j : Nat) : BitVec 32 := idx (ix2 (Fin.ofNat 2048 j) (0 : Fin 1))

/-- The natural number of a token names that token. -/
theorem tok_val (idx : Vec Ideal S2048x1 .i32) (i : Fin 2048) : tok idx i.val = idx (ix2 i (0 : Fin 1)) :=
  congrArg (fun t : Fin 2048 => idx (ix2 t (0 : Fin 1))) (Fin.ext (Nat.mod_eq_of_lt i.isLt))

/-- Expert `e` keeps token `i`: the token is routed to it and fewer than 102 earlier tokens are. -/
def Kept (idx : Vec Ideal S2048x1 .i32) (e : BitVec 32) (i : Nat) : Prop :=
  tok idx i = e ∧ Nat.count (fun j => tok idx j = e) i < 102

instance (idx : Vec Ideal S2048x1 .i32) (e : BitVec 32) (i : Nat) : Decidable (Kept idx e i) :=
  inferInstanceAs (Decidable (_ ∧ _))

/-- The word of a device's `k`-th expert, for the device's word `w`. -/
abbrev expert (w : BitVec 32) (k : Fin 4) : BitVec 32 := w * 4#32 + BitVec.ofNat 32 k.val

/-- A widened bit as a float is one or zero. -/
theorem sitofp_bit (b : BitVec 1) : FloatOps.sitofp (F := Ideal) .f32 (b.setWidth 32) = if b = 1#1 then (1 : EReal) else 0 := by
  rcases bit_eq_zero_or_eq_one b with rfl | rfl
  · rw [if_neg (by decide)]
    show (((BitVec.setWidth 32 0#1).toInt : ℝ) : EReal) = 0
    rw [show (BitVec.setWidth 32 0#1).toInt = 0 by decide, Int.cast_zero, EReal.coe_zero]
  · rw [if_pos (show (1 : BitVec 1) = 1#1 from rfl)]
    show (((BitVec.setWidth 32 1#1).toInt : ℝ) : EReal) = 1
    rw [show (BitVec.setWidth 32 1#1).toInt = 1 by decide, Int.cast_one, EReal.coe_one]

/-- The bit of an equality test. -/
theorem ofBool_one (p : Prop) [Decidable p] : BitVec.ofBool (decide p) = 1#1 ↔ p := by
  by_cases h : p <;> simp [h]

/-- The first table marks, for each of the device's experts, the tokens routed to it. -/
theorem pay1_apply (w : BitVec 32) (idx : Vec Ideal S2048x1 .i32) (i : Fin 2048) (k : Fin 4) :
    k0_pay1 (F := Ideal) w idx (ix2 i k) = if tok idx i.val = expert w k then (1 : EReal) else 0 := by
  pointwise [k0_pay1]
  refine (sitofp_bit _).trans (if_congr ?_ rfl rfl)
  rw [tok_val]
  exact ofBool_one _

/-- The first table counts windows of one. -/
theorem counts_one (w : BitVec 32) (idx : Vec Ideal S2048x1 .i32) :
    Counts (fun k j => tok idx j = expert w k) 1 (k0_pay1 (F := Ideal) w idx) := by
  intro i k
  rw [pay1_apply, win_one]
  by_cases h : tok idx i.val = expert w k
  · rw [if_pos h, if_pos h, Nat.cast_one]
  · rw [if_neg h, if_neg h, Nat.cast_zero]

/-- After the first four steps an entry counts the last sixteen tokens. -/
theorem counts_16 (w : BitVec 32) (idx : Vec Ideal S2048x1 .i32) :
    Counts (fun k j => tok idx j = expert w k) 16 (k0_pay2 (F := Ideal) w idx) :=
  ((((counts_one w idx).step 2 rfl rfl slices_S2048x4_o0_0_S2047x4 concatenates_S1x4_S2047x4_S2048x4_d0).step
    4 rfl rfl slices_S2048x4_o0_0_S2046x4 concatenates_S2x4_S2046x4_S2048x4_d0).step
    8 rfl rfl slices_S2048x4_o0_0_S2044x4 concatenates_S4x4_S2044x4_S2048x4_d0).step
    16 rfl rfl slices_S2048x4_o0_0_S2040x4 concatenates_S8x4_S2040x4_S2048x4_d0

/-- The last seven steps, of shifts 16 to 1024. -/
def scan7 (v : FVec Ideal S2048x4 .f32) : FVec Ideal S2048x4 .f32 :=
  down 1024 1024 (down 512 1536 (down 256 1792 (down 128 1920 (down 64 1984 (down 32 2016 (down 16 2032 v
    slices_S2048x4_o0_0_S2032x4 concatenates_S16x4_S2032x4_S2048x4_d0)
    slices_S2048x4_o0_0_S2016x4 concatenates_S32x4_S2016x4_S2048x4_d0)
    slices_S2048x4_o0_0_S1984x4 concatenates_S64x4_S1984x4_S2048x4_d0)
    slices_S2048x4_o0_0_S1920x4 concatenates_S128x4_S1920x4_S2048x4_d0)
    slices_S2048x4_o0_0_S1792x4 concatenates_S256x4_S1792x4_S2048x4_d0)
    slices_S2048x4_o0_0_S1536x4 concatenates_S512x4_S1536x4_S2048x4_d0)
    slices_S2048x4_o0_0_S1024x4 concatenates_S1024x4_S1024x4_S2048x4_d0

/-- From windows of sixteen the last seven steps reach windows of all 2048 tokens. -/
theorem Counts.scan7 {p : Fin 4 → Nat → Prop} [∀ k, DecidablePred (p k)] {v : FVec Ideal S2048x4 .f32} (hv : Counts p 16 v) :
    Counts p 2048 (scan7 v) :=
  ((((((hv.step 32 rfl rfl _ _).step 64 rfl rfl _ _).step 128 rfl rfl _ _).step 256 rfl rfl _ _).step 512 rfl rfl _ _).step
    1024 rfl rfl _ _).step 2048 rfl rfl _ _

/-- The limit of 102 as a float. -/
theorem limit_val : Ideal.ofBits .f32 0x42CC0000#32 = ((102 : Nat) : EReal) := by
  rw [show ((102 : Nat) : EReal) = ((102 : ℝ) : EReal) from rfl]
  simp [Ideal.ofBits, Ideal.ieee, -EReal.coe_mul]
  norm_num

/-- The table as the last seven steps, the test against the limit and the product with the first table. -/
theorem keepOf_eq (w : BitVec 32) (idx : Vec Ideal S2048x1 .i32) :
    keepOf (F := Ideal) w idx
      = shapeCast S2048x4 (mulf (k0_pay1 w idx) (sitofp .f32 (extui 32 (cmpf .ole (Cert.Moe.scan7 (k0_pay2 w idx))
          (broadcast S2048x4 (Scalar.ofBits .f32 0x42CC0000#32))) natLt_1_32))) shapeCasts_S2048x4_S2048x4 := rfl

/-- The table of kept tokens: one where the expert keeps the token, zero elsewhere. -/
theorem keepOf_apply (w : BitVec 32) (idx : Vec Ideal S2048x1 .i32) (i : Fin 2048) (k : Fin 4) :
    keepOf (F := Ideal) w idx (ix2 i k) = if Kept idx (expert w k) i.val then (1 : EReal) else 0 := by
  rw [keepOf_eq]
  pointwise
  rw [pay1_apply, (counts_16 w idx).scan7 i k, win_all _ _ _ i.isLt, limit_val, sitofp_bit]
  simp only [ofBool_one, EReal.natCast_le_iff]
  by_cases ht : tok idx i.val = expert w k
  · rw [if_pos ht, one_mul, Nat.count_succ, if_pos ht]
    exact if_congr ⟨fun h => ⟨ht, h⟩, fun h => h.2⟩ rfl rfl
  · rw [if_neg ht, zero_mul, if_neg fun h => ht h.1]

end Cert.Moe
-- ==== Proof.Chunk.lean ====
/-
# A chunk's part at an index

What four experts add to a chunk, read at one row and one output feature: for each expert that keeps the row's token,
the dot product of the token with the expert's column. An entry of the table of kept tokens is one or zero, and zero
times any extended real is zero, so a masked row contributes the dot product or nothing.
-/
module

public import proofs.«01_k».proof.Proof.Keep
public import Idealize.ShloMosaic.Lib.Pointwise
public import Idealize.ShloMosaic.Lib.Pointwise.Blocks

@[expose] public section

noncomputable section

namespace Cert.Moe

open Cert.KernelIdeal Cert.KernelIdeal.Gen
open Idealize.ShloMosaic
open Idealize.ShloMosaic.TcCoe

variable (m : (ℓ : Loc nD τ sig) → Buf (Elt Ideal) ℓ) (ρ : Dev nD → PrngReg)

/-! ## What the body reads -/

/-- The staged tokens are the whole array. -/
theorem xstg_eq (c : Dev nD) : xstg (F := Ideal) m ρ c = m ((c : Thread nD τ).loc main_arg0) :=
  Memref.read_access_unit_zero (Elt Ideal) main_arg0 (funext fun a => by fin_cases a <;> decide) _ _

/-- The staged expert numbers are the whole array. -/
theorem istg_eq (c : Dev nD) : istg (F := Ideal) m ρ c = m ((c : Thread nD τ).loc main_arg2) :=
  Memref.read_access_unit_zero (Elt Ideal) main_arg2 (funext fun a => by fin_cases a <;> decide) _ _

/-- The staged matrices are the device's whole array. -/
theorem wstg_eq (c : Dev nD) : wstg (F := Ideal) m ρ c = m ((c : Thread nD τ).loc main_arg3) :=
  Memref.read_access_unit_zero (Elt Ideal) main_arg3 (funext fun a => by fin_cases a <;> decide) _ _

/-- Row `r` of chunk `e` among all tokens. -/
def row (e : Dev nD) (r : Fin 512) : Fin 2048 := ⟨512 * e.val + r.val, by have h : e.val < 4 := e.isLt; have := r.isLt; omega⟩

/-- The rows of a chunk are its rows of the tokens. -/
theorem xrows_apply (c e : Dev nD) (r : Fin 512) (d : Fin 512) :
    xrows (F := Ideal) m ρ c e (ix2 r d) = m ((c : Thread nD τ).loc main_arg0) (ix2 (row e r) d) := by
  rw [← xstg_eq m ρ c]
  refine congrArg (xstg m ρ c) (funext fun a => Fin.ext ?_)
  match a with
  | ⟨0, _⟩ => exact congrArg (512 * e.val + ·) (Nat.one_mul _)
  | ⟨1, _⟩ => exact (Nat.zero_add _).trans (Nat.one_mul _)

/-- The rows of a chunk are its rows of the table. -/
theorem krows_apply (c e : Dev nD) (r : Fin 512) (k : Fin 4) :
    krows (F := Ideal) m ρ c e (ix2 r k) = keep (F := Ideal) m ρ c (ix2 (row e r) k) := by
  refine congrArg (keep m ρ c) (funext fun a => Fin.ext ?_)
  match a with
  | ⟨0, _⟩ => exact congrArg (512 * e.val + ·) (Nat.one_mul _)
  | ⟨1, _⟩ => exact (Nat.zero_add _).trans (Nat.one_mul _)

/-- An expert's matrix is its slice of the device's array. -/
theorem wexp_apply (c : Dev nD) (k : Fin 4) (d : Fin 512) (f : Fin 1024) :
    wexp (F := Ideal) m ρ c k (ix3 (0 : Fin 1) d f) = m ((c : Thread nD τ).loc main_arg3) (ix3 k d f) := by
  rw [← wstg_eq m ρ c]
  refine congrArg (wstg m ρ c) (funext fun a => Fin.ext ?_)
  match a with
  | ⟨0, _⟩ => exact congrArg (k.val + ·) (Nat.one_mul _)
  | ⟨1, _⟩ => exact (Nat.zero_add _).trans (Nat.one_mul _)
  | ⟨2, _⟩ => exact (Nat.zero_add _).trans (Nat.one_mul _)

/-! ## The chunk product -/

/-- A chunk's part before any simplification: four masked products. -/
theorem chunkF_apply (x : Vec Ideal S512x512 .f32) (k : Vec Ideal S512x4 .f32) (w0 w1 w2 w3 : Vec Ideal S1x512x1024 .f32)
    (r : Fin 512) (f : Fin 1024) :
    chunkF (F := Ideal) x k w0 w1 w2 w3 (ix2 r f)
      = ∑ d : Fin 512, x (ix2 r d) * k (ix2 r 0) * w0 (ix3 0 d f) + ∑ d : Fin 512, x (ix2 r d) * k (ix2 r 1) * w1 (ix3 0 d f)
        + ∑ d : Fin 512, x (ix2 r d) * k (ix2 r 2) * w2 (ix3 0 d f) + ∑ d : Fin 512, x (ix2 r d) * k (ix2 r 3) * w3 (ix3 0 d f) := by
  pointwise [chunkF, k0_pay20, k0_pay18, k0_pay19, k0_pay17]

/-- A product of rows masked by a zero or a one is the product or zero. -/
theorem sum_masked {n : Nat} (a b : Fin n → EReal) (p : Prop) [Decidable p] :
    ∑ d, a d * (if p then 1 else 0) * b d = if p then ∑ d, a d * b d else 0 := by
  by_cases h : p
  · simp only [if_pos h, mul_one]
  · simp only [if_neg h, mul_zero, zero_mul, Finset.sum_const_zero]

/-- Token `t` times expert `k`'s matrix, at feature `f`. -/
def dotAt {n : Nat} (x : Vec Ideal S2048x512 .f32) (w : Vec Ideal ⟨3, ![n, 512, 1024]⟩ .f32) (k : Fin n) (t : Fin 2048) (f : Fin 1024) : EReal :=
  ∑ d : Fin 512, x (ix2 t d) * w (ix3 k d f)

/-- What device `c`'s experts add to row `r` of chunk `e`: each expert that keeps the token adds its product. -/
theorem chunkOf_apply (c e : Dev nD) (r : Fin 512) (f : Fin 1024) :
    chunkOf (F := Ideal) m ρ c e (ix2 r f) = ∑ k : Fin 4,
      if Kept (m ((c : Thread nD τ).loc main_arg2)) (expert (dword c) k) (row e r).val then
        dotAt (m ((c : Thread nD τ).loc main_arg0)) (m ((c : Thread nD τ).loc main_arg3)) k (row e r) f
      else 0 := by
  unfold chunkOf
  rw [chunkF_apply, Fin.sum_univ_four]
  simp only [xrows_apply, krows_apply, wexp_apply, keep, istg_eq, keepOf_apply, sum_masked, dotAt]

end Cert.Moe
-- ==== Proof.RefValue.lean ====
/-
# The reference's result at an index

The reference counts, for each token, the earlier tokens routed to the same expert, multiplies every token with every
expert's matrix, and adds up, over the experts, the products of those that keep the token.
-/
module

public import proofs.«01_k».proof.Proof.Chunk
public import proofs.«01_k».proof.Proof.Gen.ReferenceIdeal.Run
public import Idealize.ShloMosaic.Lib.Pointwise
public import Idealize.ShloMosaic.Lib.Routing.Ops

@[expose] public section

noncomputable section

namespace Cert.Moe

open Cert.ReferenceIdeal Cert.ReferenceIdeal.Gen
open Idealize.ShloMosaic

variable (x : Vec Ideal S2048x512 .f32) (idx : Vec Ideal S2048x1 .i32) (w : Vec Ideal S16x512x1024 .f32)

/-- Marks, for a token, the earlier tokens routed to the same expert. -/
def earlier : IVec S2048x2048 1 :=
  andi (cmpi .eq (broadcastInDim S2048x2048 ![0, 1] bcast_S2048x1_S2048x2048_0_1 idx)
      (broadcastInDim S2048x2048 ![0, 1] bcast_S1x2048_S2048x2048_0_1 (shapeCast _ idx shapeCasts_S2048x1_S1x2048)))
    (cmpi .slt (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))

/-- The number of marked tokens. -/
def rank : IVec S2048 32 :=
  Host.reduce IntOp.addi (extui 32 (earlier idx) natLt_1_32) (constantI S_ 32 0#32) reducesTo_S2048x2048_S2048_d1 h_S_

/-- Which experts keep which tokens. -/
def mask : IVec S2048x16 1 :=
  andi (broadcastInDim S2048x16 ![0, 1] bcast_S2048x1_S2048x16_0_1 (broadcastInDim S2048x1 ![0] bcast_S2048_S2048x1_0
      (cmpi .slt (rank idx) (broadcastInDim S2048 ![] bcast_S_S2048 (constantI S_ 32 102#32)))))
    (cmpi .eq (broadcastInDim S2048x16 ![0, 1] bcast_S2048x1_S2048x16_0_1 idx)
      (broadcastInDim S2048x16 ![0, 1] bcast_S1x16_S2048x16_0_1 (broadcastInDim S1x16 ![1] bcast_S16_S1x16_1 (iotaInDim S16 32 0))))

/-- The reference's result. -/
def refOut : FVec Ideal S2048x1024 .f32 :=
  Host.reduceAdd (select (broadcastInDim S2048x16x1024 ![0, 1, 2] bcast_S2048x16x1_S2048x16x1024_0_1_2
      (broadcastInDim S2048x16x1 ![0, 1] bcast_S2048x16_S2048x16x1_0_1 (mask idx)))
    (Host.dotGeneral (F := Ideal) (φ₁ := .f32) (φ₂ := .f32) dot_S2048x512_S16x512x1024_S2048x16x1024_1_1_0_02_n_n none x w)
    (broadcastInDim S2048x16x1024 ![] bcast_S_S2048x16x1024 (id (constant S_ .f32 0x00000000#32))))
    (constant S_ .f32 0x00000000#32) reducesTo_S2048x16x1024_S2048x1024_d1 h_S_

/-! ## Bits and small words -/

/-- A bit-and is set when both bits are. -/
theorem andi_one (a b : BitVec 1) : IntOp.andi a b = 1#1 ↔ a = 1#1 ∧ b = 1#1 := by revert a b; decide

/-- The bit of a test of two words for equality. -/
theorem cmpi_eq_one (a b : BitVec 32) : IntOp.cmpi CmpIPredicate.eq a b = 1#1 ↔ a = b := by
  refine Iff.trans (Iff.of_eq rfl) ((ofBool_one (a = b)))

/-- Signed order of words that hold small numbers is the numbers' order. -/
theorem cmpi_slt_one (a b : Nat) (ha : a < 2 ^ 31) (hb : b < 2 ^ 31) :
    IntOp.cmpi CmpIPredicate.slt (BitVec.ofNat 32 a) (BitVec.ofNat 32 b) = 1#1 ↔ a < b := by
  have hi : ∀ n : Nat, n < 2 ^ 31 → (BitVec.ofNat 32 n).toInt = n := fun n hn => by
    have hn' : (BitVec.ofNat 32 n).toNat = n := (BitVec.toNat_ofNat n 32).trans (Nat.mod_eq_of_lt (by omega))
    rw [BitVec.toInt_eq_toNat_of_lt (by rw [hn']; omega), hn']
  have h : IntOp.cmpi CmpIPredicate.slt (BitVec.ofNat 32 a) (BitVec.ofNat 32 b)
      = BitVec.ofBool (decide ((BitVec.ofNat 32 a).toInt < (BitVec.ofNat 32 b).toInt)) := rfl
  rw [h, ofBool_one, hi a ha, hi b hb, Int.ofNat_lt]

/-- Counting below `n` what also lies below `i` is counting below `i`. -/
theorem count_below (p : Nat → Prop) [DecidablePred p] (i n : Nat) (h : i ≤ n) : Nat.count (fun j => p j ∧ j < i) n = Nat.count p i := by
  rw [Nat.count_eq_card_filter_range, Nat.count_eq_card_filter_range]
  refine congrArg Finset.card (Finset.ext fun j => ?_)
  simp only [Finset.mem_filter, Finset.mem_range]
  exact ⟨fun ⟨_, hp, hi⟩ => ⟨hi, hp⟩, fun ⟨hi, hp⟩ => ⟨by omega, hp, hi⟩⟩

/-! ## The parts at an index -/

/-- A mark is an earlier token with the same expert. -/
theorem earlier_apply (i j : Fin 2048) : earlier idx (ix2 i j) = 1#1 ↔ tok idx j.val = tok idx i.val ∧ j.val < i.val := by
  rw [tok_val, tok_val]
  pointwise [earlier]
  rw [andi_one, cmpi_eq_one, cmpi_slt_one _ _ (by omega) (by omega), eq_comm]

/-- The number of marks is the number of earlier tokens with the same expert. -/
theorem rank_apply (t : Fin 2048) : rank idx (ix1 t) = BitVec.ofNat 32 (Nat.count (fun j => tok idx j = tok idx t.val) t.val) := by
  rw [← count_below (fun j => tok idx j = tok idx t.val) t.val 2048 t.isLt.le]
  exact Routing.reduce_count (by decide) (earlier idx) natLt_1_32 reducesTo_S2048x2048_S2048_d1 h_S_ t
    (fun j => tok idx j = tok idx t.val ∧ j < t.val) fun q => earlier_apply idx t q

/-- The mask is set where the expert keeps the token. -/
theorem mask_apply (t : Fin 2048) (e : Fin 16) : mask idx (ix2 t e) = 1#1 ↔ Kept idx (BitVec.ofNat 32 e.val) t.val := by
  pointwise [mask]
  have hc : Nat.count (fun j => tok idx j = tok idx t.val) t.val ≤ t.val := Nat.count_le _
  rw [rank_apply, andi_one, cmpi_eq_one, cmpi_slt_one _ _ (by omega) (by decide), ← tok_val idx t]
  constructor
  · rintro ⟨hr, he⟩
    rw [he] at hr
    exact ⟨he, hr⟩
  · rintro ⟨he, hr⟩
    rw [he]
    exact ⟨hr, rfl⟩

/-- The result at token `t` and feature `f`: each expert that keeps the token adds its product. -/
theorem refOut_apply (t : Fin 2048) (f : Fin 1024) :
    refOut x idx w (ix2 t f) = ∑ e : Fin 16, if Kept idx (BitVec.ofNat 32 e.val) t.val then dotAt x w e t f else 0 := by
  pointwise [refOut]
  refine Finset.sum_congr rfl fun e _ => ?_
  by_cases h : Kept idx (BitVec.ofNat 32 e.val) t.val
  · rw [if_pos h, (mask_apply idx t e).2 h]
    rfl
  · rw [if_neg h, (bit_ne_one_iff _).1 fun hm => h ((mask_apply idx t e).1 hm)]
    exact Ideal.ofBits_zero .f32

end Cert.Moe
-- ==== Proof.Value.lean ====
/-
# The kernel computes the reference

Device `c` holds experts `4 c` to `4 c + 3`. Its result at a row of its chunk is the sum, over the four devices and each
device's four experts, of the products of the experts that keep the row's token: the reference's sum over all sixteen
experts, in another order. Addition of extended reals is commutative and associative, so the order does not matter.
-/
module

public import proofs.«01_k».proof.Defs
public import proofs.«01_k».proof.Proof.Frames
public import proofs.«01_k».proof.Proof.RefValue

@[expose] public section

noncomputable section

namespace Cert.Moe

open Cert.KernelIdeal Cert.KernelIdeal.Gen
open Idealize.ShloMosaic
open Idealize.ShloMosaic.TcCoe
open Idealize.SL.Sem

/-! ## Adding up over the devices -/

/-- A device and the three it receives from are all four devices. -/
theorem sum_devices {M : Type} [AddCommMonoid M] (g : Dev nD → M) (c : Dev nD) :
    g c + g (src 1 c) + g (src 2 c) + g (src 0 c) = ∑ d : Fin 4, g d := by
  have hu : (Finset.univ : Finset (Dev nD)) = {c, src 1 c, src 2 c, src 0 c} := by revert c; decide
  show _ = ∑ d ∈ (Finset.univ : Finset (Dev nD)), g d
  rw [hu, Finset.sum_insert (by revert c; decide), Finset.sum_insert (by revert c; decide), Finset.sum_insert (by revert c; decide),
    Finset.sum_singleton, add_assoc, add_assoc]

/-- Expert `k` of device `d`, among the sixteen. -/
def global (d k : Fin 4) : Fin 16 := ⟨4 * d.val + k.val, by omega⟩

/-- The four experts of the four devices are the sixteen experts. -/
theorem sum_experts {M : Type} [AddCommMonoid M] (g : Fin 16 → M) : ∑ d : Fin 4, ∑ k : Fin 4, g (global d k) = ∑ e : Fin 16, g e := by
  rw [← Fintype.sum_prod_type', ← Equiv.sum_comp (finProdFinEquiv (m := 4) (n := 4))]
  exact Finset.sum_congr rfl fun q _ => congrArg g (Fin.ext (Nat.add_comm _ _))

/-- The word of a device's expert is the word of its place among the sixteen. -/
theorem expert_word (d : Dev nD) (k : Fin 4) : expert (dword d) k = BitVec.ofNat 32 (global d k).val := by
  revert d k; decide +kernel

/-! ## The result -/

variable (m : (ℓ : Loc nD τ sig) → Buf (Elt Ideal) ℓ) (ρ : Dev nD → PrngReg)

/-- Where every device has the same tokens and expert numbers, and its own four of the sixteen matrices, device `c`'s
    result at row `r` is the reference's at row `r` of chunk `c`. -/
theorem outAt_apply (x : Vec Ideal S2048x512 .f32) (idx : Vec Ideal S2048x1 .i32) (w : Vec Ideal ⟨3, ![16, 512, 1024]⟩ .f32)
    (hx : ∀ d : Dev nD, m ((d : Thread nD τ).loc main_arg0) = x) (hi : ∀ d : Dev nD, m ((d : Thread nD τ).loc main_arg2) = idx)
    (hw : ∀ d : Dev nD, m ((d : Thread nD τ).loc main_arg3) = Layout.block ⟨3, ![4, 512, 1024]⟩ ⟨3, ![16, 512, 1024]⟩ 0 4 d w)
    (c : Dev nD) (r : Fin 512) (f : Fin 1024) :
    (outAt (F := Ideal) m ρ c : FVec Ideal S512x1024 .f32) (ix2 r f) = refOut x idx w (ix2 (row c r) f) := by
  have hd : ∀ (d : Dev nD) (k : Fin 4),
      dotAt x (Layout.block ⟨3, ![4, 512, 1024]⟩ ⟨3, ![16, 512, 1024]⟩ 0 4 d w) k (row c r) f = dotAt x w (global d k) (row c r) f := by
    intro d k
    refine Finset.sum_congr rfl fun j _ => congrArg (x (ix2 (row c r) j) * ·) ?_
    refine (Layout.block_apply d w _ _).trans (congrArg w (funext fun a => Fin.ext ?_))
    refine (Layout.Tiles.idx_val _ d _ a).trans ?_
    match a with
    | ⟨0, _⟩ => exact congrArg (· + k.val) (Nat.mul_comm d.val 4)
    | ⟨1, _⟩ => rfl
    | ⟨2, _⟩ => rfl
  have hs : (outAt (F := Ideal) m ρ c : FVec Ideal S512x1024 .f32) (ix2 r f) = ∑ d : Fin 4, chunkOf (F := Ideal) m ρ d c (ix2 r f) :=
    sum_devices (M := EReal) (fun d => chunkOf (F := Ideal) m ρ d c (ix2 r f)) c
  refine Eq.trans (α := EReal) hs ?_
  rw [refOut_apply, ← sum_experts]
  refine Finset.sum_congr rfl fun d _ => ?_
  rw [chunkOf_apply, hx, hi, hw]
  refine Finset.sum_congr rfl fun k _ => ?_
  rw [hd, expert_word]

/-- The value claim: from memories that agree, both programs end, and the kernel's result on device `c` is block `c` of
    the reference's. -/
theorem algebraic : Cert.algebraic_KernelIdeal_ReferenceIdeal := by
  intro m g m' g' _ hm
  refine ⟨refOut (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg2))
      (m' (((0 : Dev Cert.ReferenceIdeal.nD) : Thread Cert.ReferenceIdeal.nD Cert.ReferenceIdeal.τ).loc Cert.ReferenceIdeal.main_arg3)),
    (θ_run defs _ _).mono (fun r h c => ?_) (run_main (F := Ideal) m g),
    (θ_run Cert.ReferenceIdeal.defs _ _).mono (fun r h => h 0) (Cert.ReferenceIdeal.Value.run (F := Ideal) m' g')⟩
  have hc := (h.1 c).1
  refine ⟨((hc 3).trans (finalA_out m g c)).trans (funext fun j => ?_), (hc 0).trans (finalA_in m g c 0 rfl), (h.1 c).2,
    (hc 1).trans (finalA_in m g c 1 rfl), (hc 2).trans (finalA_in m g c 2 rfl)⟩
  obtain ⟨r, f, rfl⟩ : ∃ (r : Fin 512) (f : Fin 1024), j = ix2 r f := ⟨j 0, j 1, eq_ix2 j⟩
  refine (outAt_apply m g _ _ _ (fun d => (hm d).1) (fun d => (hm d).2.2.1) (fun d => (hm d).2.2.2) c r f).trans ?_
  refine congrArg (refOut _ _ _) (funext fun a => Fin.ext ?_)
  match a with
  | ⟨0, _⟩ => exact congrArg (· + r.val) (Nat.mul_comm 512 c.val)
  | ⟨1, _⟩ => rfl

end Cert.Moe
-- ==== Proof.lean ====
/-
# The certificate

The three frames, the preservation and the value claim, each proved in the modules imported here.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value

@[expose] public section

noncomputable section

namespace Cert.Proof

open Cert.Moe

/-- Everything the certificate claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
